-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3072x4096 : Shape := ⟨3, ![8, 3072, 4096]⟩
abbrev S8x3072x1 : Shape := ⟨3, ![8, 3072, 1]⟩
abbrev S3072x4096 : Shape := ⟨2, ![3072, 4096]⟩
abbrev S3072 : Shape := ⟨1, ![3072]⟩
abbrev S24576x4096 : Shape := ⟨2, ![24576, 4096]⟩
abbrev S24576x1 : Shape := ⟨2, ![24576, 1]⟩
abbrev S1x3072 : Shape := ⟨2, ![1, 3072]⟩
abbrev S24576x3072 : Shape := ⟨2, ![24576, 3072]⟩
abbrev S512x4096 : Shape := ⟨2, ![512, 4096]⟩
abbrev S512x1 : Shape := ⟨2, ![512, 1]⟩
abbrev S512x3072 : Shape := ⟨2, ![512, 3072]⟩
abbrev S512x128 : Shape := ⟨2, ![512, 128]⟩
abbrev S512 : Shape := ⟨1, ![512]⟩
abbrev S512x512 : Shape := ⟨2, ![512, 512]⟩
abbrev S1x512 : Shape := ⟨2, ![1, 512]⟩

abbrev nBuf : Space → Nat
  | .hbm => 11
  | .vmem => 13
  | .smem => 0
  | _ => 0

abbrev bufTy : (tb : Table) → Fin (tcTables nBuf tb) → BufTy
  | .hbm, ⟨0, _⟩ => ⟨S8x3072x4096, .fp8e4m3⟩
  | .hbm, ⟨1, _⟩ => ⟨S8x3072x1, .f32⟩
  | .hbm, ⟨2, _⟩ => ⟨S3072x4096, .fp8e4m3⟩
  | .hbm, ⟨3, _⟩ => ⟨S3072, .f32⟩
  | .hbm, ⟨4, _⟩ => ⟨S3072, .f32⟩
  | .hbm, ⟨5, _⟩ => ⟨S24576x4096, .fp8e4m3⟩
  | .hbm, ⟨6, _⟩ => ⟨S24576x1, .f32⟩
  | .hbm, ⟨7, _⟩ => ⟨S1x3072, .f32⟩
  | .hbm, ⟨8, _⟩ => ⟨S1x3072, .f32⟩
  | .hbm, ⟨9, _⟩ => ⟨S24576x1, .f32⟩
  | .hbm, ⟨10, _⟩ => ⟨S24576x3072, .fp8e4m3⟩
  | .local _ .vmem, ⟨0, _⟩ => ⟨S512x4096, .fp8e4m3⟩
  | .local _ .vmem, ⟨1, _⟩ => ⟨S512x4096, .fp8e4m3⟩
  | .local _ .vmem, ⟨2, _⟩ => ⟨S512x1, .f32⟩
  | .local _ .vmem, ⟨3, _⟩ => ⟨S512x1, .f32⟩
  | .local _ .vmem, ⟨4, _⟩ => ⟨S3072x4096, .fp8e4m3⟩
  | .local _ .vmem, ⟨5, _⟩ => ⟨S1x3072, .f32⟩
  | .local _ .vmem, ⟨6, _⟩ => ⟨S1x3072, .f32⟩
  | .local _ .vmem, ⟨7, _⟩ => ⟨S512x1, .f32⟩
  | .local _ .vmem, ⟨8, _⟩ => ⟨S512x1, .f32⟩
  | .local _ .vmem, ⟨9, _⟩ => ⟨S512x3072, .fp8e4m3⟩
  | .local _ .vmem, ⟨10, _⟩ => ⟨S512x3072, .fp8e4m3⟩
  | .local _ .vmem, ⟨11, _⟩ => ⟨S512x3072, .f32⟩
  | .local _ .vmem, ⟨12, _⟩ => ⟨S512x128, .f32⟩
  | _, _ => ⟨S8x3072x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c48_i32 : BitVec 32 := 48#32
  let v3 : BitVec 1 := Scalar.cmpi .slt arg0 c48_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c48_i32_2 : BitVec 32 := 48#32
  let v6 : BitVec 1 := Scalar.cmpi .eq arg0 c48_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x3072x4096 : Shape := ⟨3, ![8, 3072, 4096]⟩
abbrev S8x3072x1 : Shape := ⟨3, ![8, 3072, 1]⟩
abbrev S3072x4096 : Shape := ⟨2, ![3072, 4096]⟩
abbrev S3072 : Shape := ⟨1, ![3072]⟩
abbrev S24576x4096 : Shape := ⟨2, ![24576, 4096]⟩
abbrev S24576x1 : Shape := ⟨2, ![24576, 1]⟩
abbrev S1x3072 : Shape := ⟨2, ![1, 3072]⟩
abbrev S24576x3072 : Shape := ⟨2, ![24576, 3072]⟩
abbrev S24576 : Shape := ⟨1, ![24576]⟩

abbrev nBuf : Space → Nat
  | .hbm => 11
  | .vmem => 7
  | .smem => 0
  | _ => 0

abbrev bufTy : (tb : Table) → Fin (tcTables nBuf tb) → BufTy
  | .hbm, ⟨0, _⟩ => ⟨S8x3072x4096, .fp8e4m3⟩
  | .hbm, ⟨1, _⟩ => ⟨S8x3072x1, .f32⟩
  | .hbm, ⟨2, _⟩ => ⟨S3072x4096, .fp8e4m3⟩
  | .hbm, ⟨3, _⟩ => ⟨S3072, .f32⟩
  | .hbm, ⟨4, _⟩ => ⟨S3072, .f32⟩
  | .hbm, ⟨5, _⟩ => ⟨S24576x4096, .fp8e4m3⟩
  | .hbm, ⟨6, _⟩ => ⟨S24576x1, .f32⟩
  | .hbm, ⟨7, _⟩ => ⟨S1x3072, .f32⟩
  | .hbm, ⟨8, _⟩ => ⟨S1x3072, .f32⟩
  | .hbm, ⟨9, _⟩ => ⟨S24576x1, .f32⟩
  | .hbm, ⟨10, _⟩ => ⟨S24576x3072, .fp8e4m3⟩
  | .local _ .vmem, ⟨0, _⟩ => ⟨S24576x4096, .fp8e4m3⟩
  | .local _ .vmem, ⟨1, _⟩ => ⟨S24576x1, .f32⟩
  | .local _ .vmem, ⟨2, _⟩ => ⟨S3072x4096, .fp8e4m3⟩
  | .local _ .vmem, ⟨3, _⟩ => ⟨S1x3072, .f32⟩
  | .local _ .vmem, ⟨4, _⟩ => ⟨S1x3072, .f32⟩
  | .local _ .vmem, ⟨5, _⟩ => ⟨S24576x1, .f32⟩
  | .local _ .vmem, ⟨6, _⟩ => ⟨S24576x3072, .fp8e4m3⟩
  | _, _ => ⟨S8x3072x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S24576x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
module
public import Idealize.ShloMosaic.Lib.ValueIdx
public import Idealize.ShloMosaic.Lib.Pointwise

@[expose] public section
noncomputable section
open Idealize.ShloMosaic

namespace Cert.Exponent

/-- The float32 with exponent field `n` and no fraction, as an extended real. -/
def pw (n : ℕ) : EReal := Ideal.ieee 8 23 (BitVec.ofNat 32 n <<< (23#32 : BitVec 32).toNat)

theorem fields (n : Fin 256) :
    ((BitVec.ofNat 32 n <<< (23#32 : BitVec 32).toNat).extractLsb' 31 1 == 1#1) = false ∧
    ((BitVec.ofNat 32 n <<< (23#32 : BitVec 32).toNat).extractLsb' 23 8).toNat = n.1 ∧
    ((BitVec.ofNat 32 n <<< (23#32 : BitVec 32).toNat).extractLsb' 0 23).toNat = 0 := by
  revert n; decide +kernel

theorem pw_zero : pw 0 = 0 := by
  obtain ⟨h1, h2, h3⟩ := fields 0
  unfold pw Ideal.ieee
  simp only [Fin.val_zero] at h1 h2 h3
  simp [h1, h2, h3]

theorem pw_top : pw 255 = ⊤ := by
  obtain ⟨h1, h2, h3⟩ := fields 255
  have e : ((255 : Fin 256) : ℕ) = 255 := rfl
  rw [e] at h1 h2 h3
  unfold pw Ideal.ieee
  simp [h1, h2, h3]

theorem pw_real {n : ℕ} (h0 : 1 ≤ n) (h1 : n ≤ 254) : pw n = (((2 : ℝ) ^ ((n : ℤ) - 127) : ℝ) : EReal) := by
  obtain ⟨h2, h3, h4⟩ := fields ⟨n, by omega⟩
  simp only at h2 h3 h4
  unfold pw Ideal.ieee
  have a1 : n ≠ 2 ^ 8 - 1 := by omega
  have a2 : n ≠ 0 := by omega
  simp only [Nat.reduceAdd, h2, h3, h4, a1, a2, if_false]
  rw [EReal.coe_eq_coe_iff]
  have e : ((n : ℤ) - 127) = 23 + ((n : ℤ) - (2 ^ (8 - 1) - 1) - (23 : ℕ)) := by norm_num
  rw [e, zpow_add₀ (by norm_num)]
  norm_num

theorem pw_mono {n k : ℕ} (h : n ≤ k) (hk : k ≤ 255) : pw n ≤ pw k := by
  rcases Nat.eq_or_lt_of_le hk with rfl | hk'
  · rw [pw_top]; exact le_top
  rcases Nat.eq_zero_or_pos n with rfl | hn
  · rw [pw_zero]
    rcases Nat.eq_zero_or_pos k with rfl | hk0
    · rw [pw_zero]
    · rw [pw_real hk0 (by omega)]
      exact_mod_cast (by positivity : (0 : ℝ) ≤ 2 ^ ((k : ℤ) - 127))
  · rw [pw_real hn (by omega), pw_real (by omega) (by omega), EReal.coe_le_coe_iff]
    exact zpow_le_zpow_right₀ (by norm_num) (by omega)

open Classical in
/-- The largest field whose power of two is at most `v`. -/
def field (v : EReal) : ℕ := Nat.findGreatest (fun n => pw n ≤ v) 255

theorem field_le (v : EReal) : field v ≤ 255 := Nat.findGreatest_le _

theorem field_spec {v : EReal} (h : 0 ≤ v) : pw (field v) ≤ v := by
  classical
  exact Nat.findGreatest_spec (P := fun n => pw n ≤ v) (Nat.zero_le 255) (by rw [pw_zero]; exact h)

theorem pw_le_iff {v : EReal} (h : 0 ≤ v) {n : ℕ} (hn : n ≤ 255) : pw n ≤ v ↔ n ≤ field v := by
  classical
  constructor
  · intro h'; exact Nat.le_findGreatest hn h'
  · intro h'; exact (pw_mono h' (field_le v)).trans (field_spec h)

theorem field_eq_zero {v : EReal} (h : 0 ≤ v) : field v = 0 ↔ v < pw 1 := by
  rw [← not_le, pw_le_iff h (by norm_num)]; omega

theorem field_eq_top {v : EReal} (h : 0 ≤ v) : field v = 255 ↔ v = ⊤ := by
  have := field_le v
  rw [← top_le_iff, ← pw_top, pw_le_iff h (by norm_num)]; omega

/-- The rounded-down binary logarithm, capped at 128, finds the same field. -/
theorem floor_log {v : EReal} (h : 0 ≤ v) (h0 : field v ≠ 0) (h1 : field v ≠ 255) :
    min (Ideal.liftRound Int.floor (Ideal.div (Ideal.log v) ((Real.log 2 : ℝ) : EReal)) + 1) ((128 : ℝ) : EReal)
      = (((field v : ℝ) - 126 : ℝ) : EReal) := by
  have hle := field_le v
  set n := field v with hn
  have hs : pw n ≤ v := field_spec h
  have hl2 : 0 < Real.log 2 := Real.log_pos (by norm_num)
  have hvt : v ≠ ⊤ := fun e => h1 ((field_eq_top h).2 e)
  have hvb : v ≠ ⊥ := by rintro rfl; simp at h
  lift v to ℝ using ⟨hvt, hvb⟩ with r
  rw [pw_real (by omega) (by omega), EReal.coe_le_coe_iff] at hs
  have hr : 0 < r := lt_of_lt_of_le (by positivity) hs
  have hlo : (n : ℝ) - 127 ≤ Real.log r / Real.log 2 := by
    rw [le_div_iff₀ hl2]
    have := Real.log_le_log (by positivity) hs
    rw [Real.log_zpow] at this; push_cast at this; exact this
  have hdiv : Ideal.div (Ideal.log (r : EReal)) ((Real.log 2 : ℝ) : EReal)
      = ((Real.log r / Real.log 2 : ℝ) : EReal) := by
    have e1 : Ideal.log (r : EReal) = (Real.log r : EReal) := by
      show (if r ≤ 0 then ⊥ else (Real.log r : EReal)) = _
      rw [if_neg (not_le.2 hr)]
    have e2 : ((Real.log 2 : ℝ) : EReal) ≠ 0 := by exact_mod_cast hl2.ne'
    rw [e1, Ideal.div, if_neg e2, ← EReal.coe_inv, ← EReal.coe_mul, div_eq_mul_inv]
  rw [hdiv]
  show min (((⌊Real.log r / Real.log 2⌋ : ℝ) : EReal) + 1) ((128 : ℝ) : EReal) = _
  have hfl : (n : ℤ) - 127 ≤ ⌊Real.log r / Real.log 2⌋ := by
    rw [Int.le_floor]; push_cast; exact hlo
  have key : min ((⌊Real.log r / Real.log 2⌋ : ℤ) + 1) 128 = (n : ℤ) - 126 := by
    rcases Nat.eq_or_lt_of_le (show n ≤ 254 by omega) with e | hlt
    · rw [e] at hfl ⊢; push_cast at hfl ⊢; omega
    · have hu : (r : EReal) < pw (n + 1) := by
        rw [← not_le, pw_le_iff h (by omega), ← hn]; omega
      rw [pw_real (by omega) (by omega), EReal.coe_lt_coe_iff] at hu
      have hhi : Real.log r / Real.log 2 < (n : ℝ) - 126 := by
        rw [div_lt_iff₀ hl2]
        have := Real.log_lt_log hr hu
        rw [Real.log_zpow] at this; push_cast at this; linarith
      have : ⌊Real.log r / Real.log 2⌋ < (n : ℤ) - 126 := by
        rw [Int.floor_lt]; push_cast; exact hhi
      omega
  have e3 : (((⌊Real.log r / Real.log 2⌋ : ℝ) : EReal) + 1) = (((⌊Real.log r / Real.log 2⌋ : ℝ) + 1 : ℝ) : EReal) := by
    push_cast; rfl
  rw [e3, ← EReal.coe_strictMono.monotone.map_min, EReal.coe_eq_coe_iff]
  exact_mod_cast key

/-- The scale of a row whose largest entry over 448 is `v`. -/
def scale (v : EReal) : EReal := if field v = 0 ∨ field v = 255 then 1 else pw (field v + 1)

/-- What the row is multiplied with. -/
def invScale (v : EReal) : EReal := if field v = 0 ∨ field v = 255 then 1 else pw (253 - field v)

/-- A power of two as a float32 without subnormals. -/
def pow2 (e : EReal) : EReal := if ((127 : ℝ) : EReal) < e then ⊤ else if e < ((-126 : ℝ) : EReal) then 0 else Ideal.exp2 e

theorem pow2_int (k : ℤ) : pow2 ((k : ℝ) : EReal)
    = if 127 < k then ⊤ else if k < -126 then 0 else (((2 : ℝ) ^ k : ℝ) : EReal) := by
  unfold pow2
  have a : ((127 : ℝ) : EReal) < ((k : ℝ) : EReal) ↔ 127 < k := by
    rw [EReal.coe_lt_coe_iff]; exact_mod_cast Iff.rfl
  have b : ((k : ℝ) : EReal) < ((-126 : ℝ) : EReal) ↔ k < -126 := by
    rw [EReal.coe_lt_coe_iff]
    constructor
    · intro h; have : (k : ℝ) < ((-126 : ℤ) : ℝ) := by push_cast; exact h
      exact_mod_cast this
    · intro h; have : (k : ℝ) < ((-126 : ℤ) : ℝ) := by exact_mod_cast h
      push_cast at this; exact this
  simp only [a, b]
  have c : Ideal.exp2 ((k : ℝ) : EReal) = (((2 : ℝ) ^ k : ℝ) : EReal) := by
    show ((Real.rpow 2 (k : ℝ) : ℝ) : EReal) = _
    rw [EReal.coe_eq_coe_iff]
    exact Real.rpow_intCast 2 k
  rw [c]

/-- The exponent as the plain formula gives it. -/
def expo (v : EReal) : EReal :=
  if v < pw 1 ∨ v = ⊤ then 0
  else min (Ideal.liftRound Int.floor (Ideal.div (Ideal.log v) ((Real.log 2 : ℝ) : EReal)) + 1) ((128 : ℝ) : EReal)

theorem expo_eq {v : EReal} (h : 0 ≤ v) :
    expo v = (((if field v = 0 ∨ field v = 255 then 0 else (field v : ℤ) - 126 : ℤ) : ℝ) : EReal) := by
  unfold expo
  simp only [← field_eq_zero h, ← field_eq_top h]
  by_cases hc : field v = 0 ∨ field v = 255
  · rw [if_pos hc, if_pos hc]; norm_num
  · rw [if_neg hc, if_neg hc]
    rw [not_or] at hc
    rw [floor_log h hc.1 hc.2]; push_cast; rfl

theorem pow2_expo {v : EReal} (h : 0 ≤ v) : pow2 (expo v) = scale v := by
  have hle := field_le v
  rw [expo_eq h, pow2_int, scale]
  by_cases hc : field v = 0 ∨ field v = 255
  · simp only [hc, if_true]; norm_num
  · simp only [hc, if_false]
    rw [not_or] at hc
    rcases Nat.eq_or_lt_of_le (show field v ≤ 254 by omega) with e | hlt
    · rw [if_pos (by omega), e, pw_top]
    · rw [if_neg (by omega), if_neg (by omega), pw_real (by omega) (by omega)]
      congr 2; push_cast; omega

theorem pow2_neg_expo {v : EReal} (h : 0 ≤ v) : pow2 (0 - expo v) = invScale v := by
  have hle := field_le v
  rw [expo_eq h, invScale, zero_sub, ← EReal.coe_neg, ← Int.cast_neg, pow2_int]
  by_cases hc : field v = 0 ∨ field v = 255
  · simp only [hc, if_true]; norm_num
  · simp only [hc, if_false]
    rw [not_or] at hc
    rw [if_neg (by omega)]
    by_cases hb : 253 ≤ field v
    · rw [if_pos (by omega), show 253 - field v = 0 by omega, pw_zero]
    · rw [if_neg (by omega), pw_real (by omega) (by omega)]
      congr 2; omega

/-! ### The bitwise search -/

theorem search_step {v : EReal} (h : 0 ≤ v) (b q : ℕ) (hq : q * (2 * b) ≤ field v) (hq' : field v < (q + 1) * (2 * b))
    (hb : (q + 1) * (2 * b) ≤ 256) (hb0 : 0 < b) :
    (if pw (q * (2 * b) + b) ≤ v then q * (2 * b) + b else q * (2 * b)) = field v / b * b := by
  simp only [pw_le_iff h (show q * (2 * b) + b ≤ 255 by nlinarith)]
  split_ifs with hc
  · have : field v / b = 2 * q + 1 := by
      apply Nat.div_eq_of_lt_le <;> nlinarith
    rw [this]; ring
  · have : field v / b = 2 * q := by
      apply Nat.div_eq_of_lt_le <;> nlinarith
    rw [this]; ring

/-- One step of the search, on words: from the multiple of `2 b` below the field to the multiple of `b`. -/
theorem search_word {v : EReal} (h : 0 ≤ v) (b : ℕ) (hb : b ∈ [1, 2, 4, 8, 16, 32, 64, 128]) :
    (if Ideal.ieee 8 23 ((BitVec.ofNat 32 (field v / (2 * b) * (2 * b)) + BitVec.ofNat 32 b) <<< (23#32 : BitVec 32).toNat) ≤ v
      then BitVec.ofNat 32 (field v / (2 * b) * (2 * b)) + BitVec.ofNat 32 b
      else BitVec.ofNat 32 (field v / (2 * b) * (2 * b))) = BitVec.ofNat 32 (field v / b * b) := by
  have hle := field_le v
  have hb0 : 0 < b := by fin_cases hb <;> norm_num
  rw [← search_step h b (field v / (2 * b)) (Nat.div_mul_le_self _ _)
    (by rw [mul_comm]; exact Nat.lt_mul_div_succ _ (by omega)) (by fin_cases hb <;> omega) hb0, ← BitVec.ofNat_add]
  show (if pw _ ≤ v then _ else _) = _
  split_ifs <;> rfl

/-- The exponent word of a field: `0` for a subnormal and for infinity. -/
def expoWord (n : ℕ) : BitVec 32 := if n = 0 ∨ n = 255 then 0#32 else BitVec.ofNat 32 n - 126#32

theorem expoWord_scale (n : Fin 256) :
    IntOp.shli .vector (IntOp.minsi 255#32 (IntOp.maxsi 0#32 (IntOp.addi (expoWord n) 127#32))) 23#32
      = BitVec.ofNat 32 (if n.1 = 0 ∨ n.1 = 255 then 127 else n + 1) <<< (23#32 : BitVec 32).toNat := by
  revert n; decide +kernel

theorem expoWord_inv (n : Fin 256) :
    IntOp.shli .vector (IntOp.minsi 255#32 (IntOp.maxsi 0#32 (IntOp.addi (IntOp.subi 0#32 (expoWord n)) 127#32))) 23#32
      = BitVec.ofNat 32 (if n.1 = 0 ∨ n.1 = 255 then 127 else 253 - n) <<< (23#32 : BitVec 32).toNat := by
  revert n; decide +kernel

theorem expoWord_select (n : Fin 256) :
    Scalar.select (IntOp.ori (IntOp.cmpi CmpIPredicate.eq (BitVec.ofNat 32 n) 0#32) (IntOp.cmpi CmpIPredicate.eq (BitVec.ofNat 32 n) 255#32))
      (0#32) (IntOp.subi (BitVec.ofNat 32 n) 126#32) = expoWord n := by
  revert n; decide +kernel

theorem pw_127 : pw 127 = 1 := by
  rw [pw_real (by norm_num) (by norm_num)]; norm_num

theorem ofBits_scale (v : EReal) :
    Ideal.ofBits .f32 (IntOp.shli .vector (IntOp.minsi 255#32 (IntOp.maxsi 0#32 (IntOp.addi (expoWord (field v)) 127#32))) 23#32)
      = scale v := by
  have h := expoWord_scale ⟨field v, Nat.lt_succ_of_le (field_le v)⟩
  simp only at h
  rw [h]
  show pw _ = _
  unfold scale
  split_ifs
  · exact pw_127
  · rfl

theorem ofBits_inv (v : EReal) :
    Ideal.ofBits .f32 (IntOp.shli .vector (IntOp.minsi 255#32 (IntOp.maxsi 0#32
      (IntOp.addi (IntOp.subi 0#32 (expoWord (field v))) 127#32))) 23#32) = invScale v := by
  have h := expoWord_inv ⟨field v, Nat.lt_succ_of_le (field_le v)⟩
  simp only at h
  rw [h]
  show pw _ = _
  unfold invScale
  split_ifs
  · exact pw_127
  · rfl

/-! ### The factor 1/448 and the largest magnitude of a row -/

/-- The float32 nearest 1/448. -/
def c448 : EReal := Ideal.ofBits .f32 0x3B124925#32

theorem c448_nonneg : 0 ≤ c448 := by
  show 0 ≤ Ideal.ieee 8 23 (0x3B124925#32)
  unfold Ideal.ieee
  rw [if_neg (by decide), if_neg (by decide)]
  rw [if_neg (by decide)]
  exact_mod_cast (by positivity)

/-- The largest entry of a row (minus infinity for none). -/
def rowMax {n : ℕ} (f : Fin n → EReal) : EReal := Finset.fold max (Ideal.ofBits FTy.f32 0xFF800000#32) f Finset.univ

theorem rowMax_le {n : ℕ} (f : Fin n → EReal) (c : EReal) :
    rowMax f ≤ c ↔ Ideal.ofBits FTy.f32 0xFF800000#32 ≤ c ∧ ∀ k, f k ≤ c := by
  unfold rowMax
  rw [Finset.fold_max_le]; simp

theorem rowMax_nonneg {n : ℕ} {f : Fin n → EReal} (k : Fin n) (h : 0 ≤ f k) : 0 ≤ rowMax f :=
  h.trans (((rowMax_le f _).1 le_rfl).2 k)

/-- The magnitude of an extended real. -/
def mag (x : EReal) : EReal := max x (-x)

theorem mag_nonneg (x : EReal) : 0 ≤ mag x := by
  rcases le_total 0 x with h | h
  · exact h.trans (le_max_left _ _)
  · exact le_trans (by rw [EReal.neg_nonneg]; exact h) (le_max_right _ _)

theorem mul_c448_nonneg {a : EReal} (h : 0 ≤ a) : 0 ≤ a * c448 := mul_nonneg h c448_nonneg

theorem field_zero : field 0 = 0 := by
  rw [field_eq_zero le_rfl, pw_real le_rfl (by norm_num)]
  exact_mod_cast (by positivity)

end Cert.Exponent
end
-- ==== Proof.Payload.lean ====
module
public import proofs.«01_k».proof.Proof.Exponent
public import proofs.«01_k».proof.Proof.Gen.KernelIdeal.Value

@[expose] public section
set_option maxRecDepth 16384
noncomputable section
open Idealize.ShloMosaic Cert.Exponent

namespace Cert.KernelIdeal.Value
open Cert.KernelIdeal Cert.KernelIdeal.Gen Idealize.ShloMosaic.TcCoe

/-! ### The row scales -/

/-- The largest lane of row `r`, times the float32 nearest 1/448. -/
def rowV (m : Vec Ideal S512x128 .f32) (r : Fin 512) : EReal := rowMax (fun l => m (ix2 r l)) * c448

theorem pay9_apply (m : Vec Ideal S512x128 .f32) (j : S512x1.Idx) :
    k0_pay9 (F := Ideal) m j = rowMax (fun l => m (ix2 (j 0) l)) := by
  pointwise [k0_pay9]
  rfl

theorem pay10_apply (m : Vec Ideal S512x128 .f32) (j : S512x1.Idx) : k0_pay10 (F := Ideal) m j = rowV m (j 0) := by
  show k0_pay9 (F := Ideal) m j * c448 = _
  rw [pay9_apply]; rfl

/-- One step of the search for the exponent field. -/
def stepV (b : ℕ) (v : FVec Ideal S512x1 .f32) (f : IVec S512x1 32) : IVec S512x1 32 :=
  select (cmpf .oge v (bitcastToFloat .f32 (shli (addi f (broadcast S512x1 (BitVec.ofNat 32 b))) (broadcast S512x1 23#32))))
    (addi f (broadcast S512x1 (BitVec.ofNat 32 b))) f

theorem stepV_apply (b : ℕ) (hb : b ∈ [1, 2, 4, 8, 16, 32, 64, 128]) (v : FVec Ideal S512x1 .f32) (f : IVec S512x1 32)
    (j : S512x1.Idx) (hv : 0 ≤ v j) (hf : f j = BitVec.ofNat 32 (field (v j) / (2 * b) * (2 * b))) :
    stepV b v f j = BitVec.ofNat 32 (field (v j) / b * b) := by
  have h := search_word hv b hb
  rw [← hf] at h
  rw [← h]
  pointwise [stepV]
  rfl

theorem search_apply (v : FVec Ideal S512x1 .f32) (j : S512x1.Idx) (hv : 0 ≤ v j) :
    stepV 1 v (stepV 2 v (stepV 4 v (stepV 8 v (stepV 16 v (stepV 32 v (stepV 64 v (stepV 128 v (broadcast S512x1 0#32))))))))
      j = BitVec.ofNat 32 (field (v j)) := by
  have h0 : (broadcast S512x1 0#32 : IVec S512x1 32) j = BitVec.ofNat 32 (field (v j) / (2 * 128) * (2 * 128)) := by
    rw [Nat.div_eq_of_lt (by have := field_le (v j); omega)]; rfl
  have h := stepV_apply 1 (by simp) v _ j hv (stepV_apply 2 (by simp) v _ j hv (stepV_apply 4 (by simp) v _ j hv
    (stepV_apply 8 (by simp) v _ j hv (stepV_apply 16 (by simp) v _ j hv (stepV_apply 32 (by simp) v _ j hv
    (stepV_apply 64 (by simp) v _ j hv (stepV_apply 128 (by simp) v _ j hv h0)))))))
  rw [h, Nat.div_one, Nat.mul_one]

theorem pay13_eq (m : Vec Ideal S512x128 .f32) :
    k0_pay13 (F := Ideal) (k0_pay9 m) (k0_pay10 m) (k0_pay11 m) (k0_pay12 m) 23#32
      = select (cmpf .oeq (k0_pay9 (F := Ideal) m) (broadcast S512x1 (Scalar.ofBits .f32 0x00000000#32))) (broadcast S512x1 0#32)
        (let g := stepV 1 (k0_pay10 m) (stepV 2 (k0_pay10 m) (stepV 4 (k0_pay10 m) (stepV 8 (k0_pay10 m) (stepV 16 (k0_pay10 m)
          (stepV 32 (k0_pay10 m) (stepV 64 (k0_pay10 m) (stepV 128 (k0_pay10 m) (broadcast S512x1 0#32))))))))
         select (ori (cmpi .eq g (broadcast S512x1 0#32)) (cmpi .eq g (broadcast S512x1 255#32))) (broadcast S512x1 0#32)
           (subi g (broadcast S512x1 126#32))) := rfl

theorem sel_apply (a : FVec Ideal S512x1 .f32) (g : IVec S512x1 32) (j : S512x1.Idx) :
    select (cmpf .oeq a (broadcast S512x1 (Scalar.ofBits .f32 0x00000000#32))) (broadcast S512x1 0#32)
      (select (ori (cmpi .eq g (broadcast S512x1 0#32)) (cmpi .eq g (broadcast S512x1 255#32))) (broadcast S512x1 0#32)
        (subi g (broadcast S512x1 126#32))) j
      = if a j = 0 then 0#32 else Scalar.select (IntOp.ori (IntOp.cmpi CmpIPredicate.eq (g j) 0#32)
          (IntOp.cmpi CmpIPredicate.eq (g j) 255#32)) (0#32) (IntOp.subi (g j) 126#32) := by
  pointwise []

/-- The exponent word of a row. -/
theorem pay13_apply (m : Vec Ideal S512x128 .f32) (j : S512x1.Idx) (hm : 0 ≤ m (ix2 (j 0) 0)) :
    k0_pay13 (F := Ideal) (k0_pay9 m) (k0_pay10 m) (k0_pay11 m) (k0_pay12 m) 23#32 j = expoWord (field (rowV m (j 0))) := by
  have hr : 0 ≤ rowMax (fun l => m (ix2 (j 0) l)) := rowMax_nonneg 0 hm
  have hv : 0 ≤ k0_pay10 (F := Ideal) m j := by rw [pay10_apply]; exact mul_c448_nonneg hr
  rw [pay13_eq]; dsimp only
  rw [sel_apply, search_apply _ j hv, pay9_apply, pay10_apply]
  split_ifs with h
  · have : rowV m (j 0) = 0 := by unfold rowV; rw [h, zero_mul]
    rw [this, field_zero]; rfl
  · exact expoWord_select ⟨field (rowV m (j 0)), Nat.lt_succ_of_le (field_le _)⟩

/-- The scale of a row. -/
theorem pay14_apply (m : Vec Ideal S512x128 .f32) (j : S512x1.Idx) (hm : 0 ≤ m (ix2 (j 0) 0)) :
    k0_pay14 (F := Ideal) (k0_pay9 m) (k0_pay10 m) (k0_pay11 m) (k0_pay12 m) 23#32 j = scale (rowV m (j 0)) := by
  rw [← ofBits_scale, ← pay13_apply m j hm]
  rfl

/-- The factor a row is multiplied with. -/
theorem pay17_apply (m : Vec Ideal S512x128 .f32) (j : S512x1.Idx) (hm : 0 ≤ m (ix2 (j 0) 0)) :
    k0_pay17 (F := Ideal) (k0_pay15 (F := Ideal) (k0_pay9 m) (k0_pay10 m) (k0_pay11 m) (k0_pay12 m) 23#32) k0_pay16 j
      = invScale (rowV m (j 0)) := by
  rw [← ofBits_inv, ← pay13_apply m j hm]
  rfl

/-! ### The codes of one chunk of columns -/

/-- Clip to what the codes hold. -/
def clip (x : EReal) : EReal := min (Ideal.ofBits FTy.f32 0x43E00000#32) (max (Ideal.ofBits FTy.f32 0xC3E00000#32) x)

theorem pay23_apply (i : Vec Ideal S512x1 .f32) (y : Vec Ideal S512x512 .f32) (j : S512x512.Idx) :
    k0_pay23 (F := Ideal) i y j = clip (y j * i (ix2 (j 0) 0)) := by
  pointwise [k0_pay23]
  rfl

/-! ### One chunk of columns of the linear layer, and its lanes' largest magnitudes -/

theorem pay24_apply (s : Vec Ideal S512x1 .f32) (x w : Vec Ideal S512x4096 .fp8e4m3) (ws b : Vec Ideal S1x512 .f32)
    (j : S512x512.Idx) : k0_pay24 (F := Ideal) s x w ws b j
      = (∑ k, x (ix2 (j 0) k) * w (ix2 (j 1) k)) * s (ix2 (j 0) 0) * ws (ix2 0 (j 1)) + b (ix2 0 (j 1)) := by
  pointwise [k0_pay24]

theorem pay18_eq (s : Vec Ideal S512x1 .f32) : k0_pay18 (F := Ideal) s = s := shapeCast_self s _

/-- The largest magnitude of the four lanes `l`, `l + 128`, `l + 256`, `l + 384`. -/
def lane (f : Fin 512 → EReal) (l : Fin 128) : EReal :=
  max (max (max (mag (f ⟨l, by omega⟩)) (mag (f ⟨128 + l, by omega⟩))) (mag (f ⟨256 + l, by omega⟩))) (mag (f ⟨384 + l, by omega⟩))

theorem pay22_apply (y : Vec Ideal S512x512 .f32) (j : S512x128.Idx) :
    k0_pay22 (F := Ideal) y j = lane (fun n => y (ix2 (j 0) n)) (j 1) := by
  pointwise [k0_pay22]
  rfl

theorem pay26_apply (y : Vec Ideal S512x512 .f32) (m : Vec Ideal S512x128 .f32) (j : S512x128.Idx) :
    k0_pay26 (F := Ideal) y m j = max (m j) (lane (fun n => y (ix2 (j 0) n)) (j 1)) := by
  pointwise [k0_pay26]
  rfl

end Cert.KernelIdeal.Value
end
-- ==== Proof.Block.lean ====
module
public import proofs.«01_k».proof.Proof.Payload

@[expose] public section
set_option maxRecDepth 16384
noncomputable section
open Idealize.ShloMosaic Cert.Exponent

/-! What one grid point of the kernel leaves in its two output blocks and its two scratch buffers. -/

namespace Cert.KernelIdeal.Value
open Cert.KernelIdeal Cert.KernelIdeal.Gen Idealize.ShloMosaic.TcCoe

theorem hz : (![0, 0] : Fin 2 → Nat) = fun _ => 0 := funext fun a => by fin_cases a <;> rfl

/-- A load of a whole buffer after stores of the whole buffer reads what the last of them stored. -/
theorem readCov_cons {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- Stores that agree with one function, at an index one of them reaches, whatever was stored before them. -/
theorem canon_append_of_pieces {Val : EltTy → Type} {S : Shape} {e : EltTy} [∀ e, Nonempty (Val e)] (G : S.Idx → Val e)
    (R : List (View.Piece Val S e)) : ∀ (L : List (View.Piece Val S e)) (_ : ∀ p ∈ L, ∀ x : p.1.shape.Idx, p.2 x = G (p.1.emb x))
      (y : S.Idx) (_ : ∃ p ∈ L, y ∈ p.1.set), View.canon (L ++ R) y = G y
  | [], _, _, hy => by obtain ⟨p, hp, _⟩ := hy; simp at hp
  | p :: L, hL, y, hy => by
    rw [List.cons_append]
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_append_of_pieces G R L (fun q hq => hL q (by simp [hq])) y ?_
      obtain ⟨q, hq, hyq⟩ := hy
      rcases List.mem_cons.mp hq with rfl | hq'
      · exact absurd hyq hm
      · exact ⟨q, hq', hyq⟩

/-- Column `n` of chunk `o` of a block. -/
def col (o : ℕ) (ho : o + 512 ≤ 3072) (j : S512x512.Idx) : S512x3072.Idx := ix2 (j 0) ⟨o + (j 1).val, by have := (j 1).isLt; change _ < 512 at this; omega⟩

theorem emb_tile (o : ℕ) (ho : o + 512 ≤ 3072)
    (ib : ∀ a, (![0, o] : Fin 2 → ℕ) a + (![512, 512] : Fin 2 → ℕ) a ≤ S512x3072.size a) (x : S512x512.Idx) :
    (Rect.unit (s := S512x3072) ![0, o] ![512, 512] ib).emb x = col o ho x :=
  Shape.idx_ext₂ (by show 0 + 1 * (x 0).val = (x 0).val; omega) (by show o + 1 * (x 1).val = o + (x 1).val; omega)

theorem mem_tile (o : ℕ) (ib : ∀ a, (![0, o] : Fin 2 → ℕ) a + (![512, 512] : Fin 2 → ℕ) a ≤ S512x3072.size a)
    (y : S512x3072.Idx) (h : o ≤ (y 1).val) (h' : (y 1).val < o + 512) :
    y ∈ (Rect.unit (s := S512x3072) ![0, o] ![512, 512] ib).set := by
  rw [Rect.mem_set_unit]
  have h0 : (y 0).val < 512 := (y 0).isLt
  exact Fin.forall_fin_two.2 ⟨⟨Nat.zero_le _, (Nat.zero_add 512).symm ▸ h0⟩, h, h'⟩

theorem six_chunks (q : ℕ) (h : q < 3072) : (2560 ≤ q ∧ q < 2560 + 512) ∨ (2048 ≤ q ∧ q < 2048 + 512)
    ∨ (1536 ≤ q ∧ q < 1536 + 512) ∨ (1024 ≤ q ∧ q < 1024 + 512) ∨ (512 ≤ q ∧ q < 512 + 512) ∨ (0 ≤ q ∧ q < 0 + 512) := by
  omega

/-- Six stores of 512 columns each fill a block. -/
theorem canon_tiles {Val : EltTy → Type} {e : EltTy} [∀ e, Nonempty (Val e)] (G : S512x3072.Idx → Val e)
    (i0 : ∀ a, (![0, 0] : Fin 2 → ℕ) a + (![512, 512] : Fin 2 → ℕ) a ≤ S512x3072.size a)
    (i1 : ∀ a, (![0, 512] : Fin 2 → ℕ) a + (![512, 512] : Fin 2 → ℕ) a ≤ S512x3072.size a)
    (i2 : ∀ a, (![0, 1024] : Fin 2 → ℕ) a + (![512, 512] : Fin 2 → ℕ) a ≤ S512x3072.size a)
    (i3 : ∀ a, (![0, 1536] : Fin 2 → ℕ) a + (![512, 512] : Fin 2 → ℕ) a ≤ S512x3072.size a)
    (i4 : ∀ a, (![0, 2048] : Fin 2 → ℕ) a + (![512, 512] : Fin 2 → ℕ) a ≤ S512x3072.size a)
    (i5 : ∀ a, (![0, 2560] : Fin 2 → ℕ) a + (![512, 512] : Fin 2 → ℕ) a ≤ S512x3072.size a)
    (w0 w1 w2 w3 w4 w5 : S512x512.Idx → Val e) (R : List (View.Piece Val S512x3072 e))
    (e0 : ∀ j, w0 j = G (col 0 (by omega) j)) (e1 : ∀ j, w1 j = G (col 512 (by omega) j))
    (e2 : ∀ j, w2 j = G (col 1024 (by omega) j)) (e3 : ∀ j, w3 j = G (col 1536 (by omega) j))
    (e4 : ∀ j, w4 j = G (col 2048 (by omega) j)) (e5 : ∀ j, w5 j = G (col 2560 (by omega) j)) :
    View.canon ([⟨Rect.unit (s := S512x3072) ![0, 2560] ![512, 512] i5, w5⟩, ⟨Rect.unit (s := S512x3072) ![0, 2048] ![512, 512] i4, w4⟩, ⟨Rect.unit (s := S512x3072) ![0, 1536] ![512, 512] i3, w3⟩, ⟨Rect.unit (s := S512x3072) ![0, 1024] ![512, 512] i2, w2⟩, ⟨Rect.unit (s := S512x3072) ![0, 512] ![512, 512] i1, w1⟩, ⟨Rect.unit (s := S512x3072) ![0, 0] ![512, 512] i0, w0⟩] ++ R) = G := by
  funext y
  apply canon_append_of_pieces
  · intro p hp x
    simp only [List.mem_cons, List.not_mem_nil, or_false] at hp
    rcases hp with rfl | rfl | rfl | rfl | rfl | rfl
    · exact (e5 x).trans (congrArg G (emb_tile _ (by omega) i5 x).symm)
    · exact (e4 x).trans (congrArg G (emb_tile _ (by omega) i4 x).symm)
    · exact (e3 x).trans (congrArg G (emb_tile _ (by omega) i3 x).symm)
    · exact (e2 x).trans (congrArg G (emb_tile _ (by omega) i2 x).symm)
    · exact (e1 x).trans (congrArg G (emb_tile _ (by omega) i1 x).symm)
    · exact (e0 x).trans (congrArg G (emb_tile _ (by omega) i0 x).symm)
  · have hy : (y 1).val < 3072 := (y 1).isLt
    rcases six_chunks _ hy with h | h | h | h | h | h
    · exact ⟨_, List.mem_cons_self, mem_tile _ i5 y h.1 h.2⟩
    · exact ⟨_, List.mem_cons_of_mem _ List.mem_cons_self, mem_tile _ i4 y h.1 h.2⟩
    · exact ⟨_, List.mem_cons_of_mem _ (List.mem_cons_of_mem _ List.mem_cons_self), mem_tile _ i3 y h.1 h.2⟩
    · exact ⟨_, List.mem_cons_of_mem _ (List.mem_cons_of_mem _ (List.mem_cons_of_mem _ List.mem_cons_self)), mem_tile _ i2 y h.1 h.2⟩
    · exact ⟨_, List.mem_cons_of_mem _ (List.mem_cons_of_mem _ (List.mem_cons_of_mem _ (List.mem_cons_of_mem _ List.mem_cons_self))), mem_tile _ i1 y h.1 h.2⟩
    · exact ⟨_, List.mem_cons_of_mem _ (List.mem_cons_of_mem _ (List.mem_cons_of_mem _ (List.mem_cons_of_mem _ (List.mem_cons_of_mem _ List.mem_cons_self)))), mem_tile _ i0 y h.1 h.2⟩

/-! ### The values -/

/-- The linear layer on one tile of 512 rows. -/
def yTile (x0 : Vec Ideal S512x4096 .fp8e4m3) (x1 : Vec Ideal S512x1 .f32) (x2 : Vec Ideal S3072x4096 .fp8e4m3)
    (x3 : Vec Ideal S1x3072 .f32) (x4 : Vec Ideal S1x3072 .f32) : Vec Ideal S512x3072 .f32 := fun j =>
  (∑ k, x0 (ix2 (j 0) k) * x2 (ix2 (j 1) k)) * x1 (ix2 (j 0) 0) * x3 (ix2 0 (j 1)) + x4 (ix2 0 (j 1))

/-- Each lane's largest magnitude over the 24 groups of 128 columns. -/
def laneTile (y : Vec Ideal S512x3072 .f32) : Vec Ideal S512x128 .f32 := fun j =>
  max (max (max (max (max (lane (fun n => y (ix2 (j 0) ⟨0 + n, by omega⟩)) (j 1)) (lane (fun n => y (ix2 (j 0) ⟨512 + n, by omega⟩)) (j 1)))
    (lane (fun n => y (ix2 (j 0) ⟨1024 + n, by omega⟩)) (j 1))) (lane (fun n => y (ix2 (j 0) ⟨1536 + n, by omega⟩)) (j 1)))
    (lane (fun n => y (ix2 (j 0) ⟨2048 + n, by omega⟩)) (j 1))) (lane (fun n => y (ix2 (j 0) ⟨2560 + n, by omega⟩)) (j 1))

/-- The scales of a tile. -/
def scaleTile (m : Vec Ideal S512x128 .f32) : Vec Ideal S512x1 .f32 := fun j => scale (rowV m (j 0))

/-- The codes of a tile. -/
def codeTile (y : Vec Ideal S512x3072 .f32) (m : Vec Ideal S512x128 .f32) : Vec Ideal S512x3072 .fp8e4m3 := fun j =>
  clip (y j * invScale (rowV m (j 0)))

theorem chunk_apply (x0 : Vec Ideal S512x4096 .fp8e4m3) (x1 : Vec Ideal S512x1 .f32) (x2 : Vec Ideal S3072x4096 .fp8e4m3)
    (x3 : Vec Ideal S1x3072 .f32) (x4 : Vec Ideal S1x3072 .f32) (o : ℕ) (ho : o + 512 ≤ 3072)
    (b2 : ∀ a, (![o, 0] : Fin 2 → ℕ) a + (![512, 4096] : Fin 2 → ℕ) a ≤ S3072x4096.size a)
    (b3 b4 : ∀ a, (![0, o] : Fin 2 → ℕ) a + (![1, 512] : Fin 2 → ℕ) a ≤ S1x3072.size a) (j : S512x512.Idx) :
    k0_pay24 (F := Ideal) (k0_pay18 x1) x0 (View.ld x2 (Rect.unit (s := S3072x4096) ![o, 0] ![512, 4096] b2))
      (View.ld x3 (Rect.unit (s := S1x3072) ![0, o] ![1, 512] b3)) (View.ld x4 (Rect.unit (s := S1x3072) ![0, o] ![1, 512] b4)) j
      = yTile x0 x1 x2 x3 x4 (col o ho j) := by
  rw [pay24_apply, pay18_eq]
  have hj := (j 1).isLt
  change _ < 512 at hj
  have e2 : ∀ k, View.ld x2 (Rect.unit (s := S3072x4096) ![o, 0] ![512, 4096] b2) (ix2 (j 1) k)
      = x2 (ix2 (⟨o + (j 1).val, by omega⟩ : Fin 3072) k) := fun k => congrArg x2 (Shape.idx_ext₂
        (by show o + 1 * (j 1).val = o + (j 1).val; omega) (by show 0 + 1 * k.val = k.val; omega))
  have e3 : ∀ (x : Vec Ideal S1x3072 .f32) b, View.ld x (Rect.unit (s := S1x3072) ![0, o] ![1, 512] b) (ix2 0 (j 1))
      = x (ix2 0 (⟨o + (j 1).val, by omega⟩ : Fin 3072)) := fun x b => congrArg x (Shape.idx_ext₂
        (by show 0 + 1 * 0 = 0; omega) (by show o + 1 * (j 1).val = o + (j 1).val; omega))
  exact congrArg₂ (· + ·) (congrArg₂ (· * ·) (congrArg (· * x1 (ix2 (j 0) 0)) (Finset.sum_congr rfl fun k _ =>
    congrArg (x0 (ix2 (j 0) k) * ·) (e2 k))) (e3 x3 b3)) (e3 x4 b4)

theorem codes_apply (y : Vec Ideal S512x3072 .f32) (m : Vec Ideal S512x128 .f32) (hm : ∀ r, 0 ≤ m (ix2 r 0)) (o : ℕ) (ho : o + 512 ≤ 3072)
    (b : ∀ a, (![0, o] : Fin 2 → ℕ) a + (![512, 512] : Fin 2 → ℕ) a ≤ S512x3072.size a) (j : S512x512.Idx) :
    k0_pay23 (F := Ideal) (k0_pay17 (F := Ideal) (k0_pay15 (F := Ideal) (k0_pay9 m) (k0_pay10 m) (k0_pay11 m) (k0_pay12 m) 23#32) k0_pay16)
      (View.ld y (Rect.unit (s := S512x3072) ![0, o] ![512, 512] b)) j = codeTile y m (col o ho j) := by
  rw [pay23_apply, pay17_apply m (ix2 (j 0) 0) (hm _)]
  have e : View.ld y (Rect.unit (s := S512x3072) ![0, o] ![512, 512] b) j = y (col o ho j) := congrArg y (Shape.idx_ext₂
        (by show 0 + 1 * (j 0).val = (j 0).val; omega) (by show o + 1 * (j 1).val = o + (j 1).val; omega))
  rw [e]
  rfl

theorem stored_apply (x0 : Vec Ideal S512x4096 .fp8e4m3) (x1 : Vec Ideal S512x1 .f32) (x2 : Vec Ideal S3072x4096 .fp8e4m3)
    (x3 : Vec Ideal S1x3072 .f32) (x4 : Vec Ideal S1x3072 .f32) (o : ℕ) (ho : o + 512 ≤ 3072)
    (b2 : ∀ a, (![o, 0] : Fin 2 → ℕ) a + (![512, 4096] : Fin 2 → ℕ) a ≤ S3072x4096.size a)
    (b3 b4 : ∀ a, (![0, o] : Fin 2 → ℕ) a + (![1, 512] : Fin 2 → ℕ) a ≤ S1x3072.size a) (j : S512x512.Idx) :
    k0_pay25 (F := Ideal) (k0_pay24 (F := Ideal) (k0_pay18 x1) x0 (View.ld x2 (Rect.unit (s := S3072x4096) ![o, 0] ![512, 4096] b2))
      (View.ld x3 (Rect.unit (s := S1x3072) ![0, o] ![1, 512] b3)) (View.ld x4 (Rect.unit (s := S1x3072) ![0, o] ![1, 512] b4))) j
      = yTile x0 x1 x2 x3 x4 (col o ho j) := by
  unfold k0_pay25
  rw [shapeCast_self]
  exact chunk_apply x0 x1 x2 x3 x4 o ho b2 b3 b4 j

/-- The chunk of columns from `o` on, as the kernel computes it. -/
def chunk (x0 : Vec Ideal S512x4096 .fp8e4m3) (x1 : Vec Ideal S512x1 .f32) (x2 : Vec Ideal S3072x4096 .fp8e4m3)
    (x3 : Vec Ideal S1x3072 .f32) (x4 : Vec Ideal S1x3072 .f32) (o : ℕ)
    (b2 : ∀ a, (![o, 0] : Fin 2 → ℕ) a + (![512, 4096] : Fin 2 → ℕ) a ≤ S3072x4096.size a)
    (b3 : ∀ a, (![0, o] : Fin 2 → ℕ) a + (![1, 512] : Fin 2 → ℕ) a ≤ S1x3072.size a) : Vec Ideal S512x512 .f32 :=
  k0_pay24 (F := Ideal) (k0_pay18 x1) x0 (View.ld x2 (Rect.unit (s := S3072x4096) ![o, 0] ![512, 4096] b2))
    (View.ld x3 (Rect.unit (s := S1x3072) ![0, o] ![1, 512] b3)) (View.ld x4 (Rect.unit (s := S1x3072) ![0, o] ![1, 512] b3))

theorem lane_chunk (x0 : Vec Ideal S512x4096 .fp8e4m3) (x1 : Vec Ideal S512x1 .f32) (x2 : Vec Ideal S3072x4096 .fp8e4m3)
    (x3 : Vec Ideal S1x3072 .f32) (x4 : Vec Ideal S1x3072 .f32) (o : ℕ) (ho : o + 512 ≤ 3072)
    (b2 : ∀ a, (![o, 0] : Fin 2 → ℕ) a + (![512, 4096] : Fin 2 → ℕ) a ≤ S3072x4096.size a)
    (b3 : ∀ a, (![0, o] : Fin 2 → ℕ) a + (![1, 512] : Fin 2 → ℕ) a ≤ S1x3072.size a) (r : Fin 512) (l : Fin 128) :
    lane (fun n => chunk x0 x1 x2 x3 x4 o b2 b3 (ix2 r n)) l = lane (fun n : Fin 512 => yTile x0 x1 x2 x3 x4 (ix2 r ⟨o + n, by omega⟩)) l :=
  congrArg (fun f => lane f l) <| funext fun n => chunk_apply x0 x1 x2 x3 x4 o ho b2 b3 b3 (ix2 r n)

theorem lanes_eq (x0 : Vec Ideal S512x4096 .fp8e4m3) (x1 : Vec Ideal S512x1 .f32) (x2 : Vec Ideal S3072x4096 .fp8e4m3)
    (x3 : Vec Ideal S1x3072 .f32) (x4 : Vec Ideal S1x3072 .f32) :
    k0_pay26 (F := Ideal) (chunk x0 x1 x2 x3 x4 2560 inb_S3072x4096_S512x4096_2560_0 inb_S1x3072_S1x512_0_2560)
      (k0_pay26 (F := Ideal) (chunk x0 x1 x2 x3 x4 2048 inb_S3072x4096_S512x4096_2048_0 inb_S1x3072_S1x512_0_2048)
      (k0_pay26 (F := Ideal) (chunk x0 x1 x2 x3 x4 1536 inb_S3072x4096_S512x4096_1536_0 inb_S1x3072_S1x512_0_1536)
      (k0_pay26 (F := Ideal) (chunk x0 x1 x2 x3 x4 1024 inb_S3072x4096_S512x4096_1024_0 inb_S1x3072_S1x512_0_1024)
      (k0_pay26 (F := Ideal) (chunk x0 x1 x2 x3 x4 512 inb_S3072x4096_S512x4096_512_0 inb_S1x3072_S1x512_0_512)
      (k0_pay22 (F := Ideal) (chunk x0 x1 x2 x3 x4 0 inb_S3072x4096_S512x4096_0_0 inb_S1x3072_S1x512_0_0))))))
      = laneTile (yTile x0 x1 x2 x3 x4) := by
  funext j
  simp only [pay26_apply, pay22_apply]
  exact congrArg₂ max (congrArg₂ max (congrArg₂ max (congrArg₂ max (congrArg₂ max (lane_chunk x0 x1 x2 x3 x4 0 (by omega) _ _ _ _)
    (lane_chunk x0 x1 x2 x3 x4 512 (by omega) _ _ _ _))
    (lane_chunk x0 x1 x2 x3 x4 1024 (by omega) _ _ _ _))
    (lane_chunk x0 x1 x2 x3 x4 1536 (by omega) _ _ _ _))
    (lane_chunk x0 x1 x2 x3 x4 2048 (by omega) _ _ _ _))
    (lane_chunk x0 x1 x2 x3 x4 2560 (by omega) _ _ _ _)

/-! ### What each case leaves -/

theorem sout0_A_0_eq (c : Dev nD) (i : grid0.Coords) (a1 : Memref sig .tc .vmem S512x4096 .fp8e4m3) (h1 : a1.IsWhole)
    (a2 : Memref sig .tc .vmem S512x1 .f32) (h2 : a2.IsWhole) (a3 : Memref sig .tc .vmem S3072x4096 .fp8e4m3) (h3 : a3.IsWhole)
    (a4 : Memref sig .tc .vmem S1x3072 .f32) (h4 : a4.IsWhole) (a5 : Memref sig .tc .vmem S1x3072 .f32) (h5 : a5.IsWhole)
    (a6 : Memref sig .tc .vmem S512x1 .f32) (h6 : a6.IsWhole) (a7 : Memref sig .tc .vmem S512x3072 .fp8e4m3) (h7 : a7.IsWhole)
    (a8 : Memref sig .tc .vmem S512x3072 .f32) (h8 : a8.IsWhole) (a9 : Memref sig .tc .vmem S512x128 .f32) (h9 : a9.IsWhole)
    (hc0 : cond0_0 i) (hc1 : cond0_1 i) (hc2 : ¬cond0_2 i)
    (x0 : Vec Ideal S512x4096 .fp8e4m3) (x1 : Vec Ideal S512x1 .f32) (x2 : Vec Ideal S3072x4096 .fp8e4m3)
    (x3 : Vec Ideal S1x3072 .f32) (x4 : Vec Ideal S1x3072 .f32) :
    sout0_A_0 (F := Ideal) c i a1 h1 a2 h2 a3 h3 a4 h4 a5 h5 a6 h6 a7 h7 a8 h8 a9 h9 hc0 hc1 hc2 x0 x1 x2 x3 x4 = yTile x0 x1 x2 x3 x4 := by
  unfold sout0_A_0
  rw [View.read_writes_eq_canon _ _ _ (scover0_A_0 c i a1 h1 a2 h2 a3 h3 a4 h4 a5 h5 a6 h6 a7 h7 a8 h8 a9 h9 hc0 hc1 hc2 x0 x1 x2 x3 x4)]
  unfold kernelRun0_A; dsimp only; sl_unfold_words
  simp only [View.readAt_eq_ld, h1.read_unread, h2.read_unread, h3.read_unread, h4.read_unread, h5.read_unread, View.ld_unit_zero (S := S512x4096) hz, View.ld_unit_zero (S := S512x1) hz]
  exact canon_tiles (yTile x0 x1 x2 x3 x4) _ _ _ _ _ _ _ _ _ _ _ _ [_]
    (stored_apply x0 x1 x2 x3 x4 0 _ _ _ _)
    (stored_apply x0 x1 x2 x3 x4 512 _ _ _ _)
    (stored_apply x0 x1 x2 x3 x4 1024 _ _ _ _)
    (stored_apply x0 x1 x2 x3 x4 1536 _ _ _ _)
    (stored_apply x0 x1 x2 x3 x4 2048 _ _ _ _)
    (stored_apply x0 x1 x2 x3 x4 2560 _ _ _ _)

theorem sout0_A_1_eq (c : Dev nD) (i : grid0.Coords) (a1 : Memref sig .tc .vmem S512x4096 .fp8e4m3) (h1 : a1.IsWhole)
    (a2 : Memref sig .tc .vmem S512x1 .f32) (h2 : a2.IsWhole) (a3 : Memref sig .tc .vmem S3072x4096 .fp8e4m3) (h3 : a3.IsWhole)
    (a4 : Memref sig .tc .vmem S1x3072 .f32) (h4 : a4.IsWhole) (a5 : Memref sig .tc .vmem S1x3072 .f32) (h5 : a5.IsWhole)
    (a6 : Memref sig .tc .vmem S512x1 .f32) (h6 : a6.IsWhole) (a7 : Memref sig .tc .vmem S512x3072 .fp8e4m3) (h7 : a7.IsWhole)
    (a8 : Memref sig .tc .vmem S512x3072 .f32) (h8 : a8.IsWhole) (a9 : Memref sig .tc .vmem S512x128 .f32) (h9 : a9.IsWhole)
    (hc0 : cond0_0 i) (hc1 : cond0_1 i) (hc2 : ¬cond0_2 i)
    (x0 : Vec Ideal S512x4096 .fp8e4m3) (x1 : Vec Ideal S512x1 .f32) (x2 : Vec Ideal S3072x4096 .fp8e4m3)
    (x3 : Vec Ideal S1x3072 .f32) (x4 : Vec Ideal S1x3072 .f32) :
    sout0_A_1 (F := Ideal) c i a1 h1 a2 h2 a3 h3 a4 h4 a5 h5 a6 h6 a7 h7 a8 h8 a9 h9 hc0 hc1 hc2 x0 x1 x2 x3 x4 = laneTile (yTile x0 x1 x2 x3 x4) := by
  unfold sout0_A_1
  rw [View.read_writes_eq_canon _ _ _ (scover0_A_1 c i a1 h1 a2 h2 a3 h3 a4 h4 a5 h5 a6 h6 a7 h7 a8 h8 a9 h9 hc0 hc1 hc2 x0 x1 x2 x3 x4)]
  unfold kernelRun0_A; dsimp only; sl_unfold_words
  simp only [View.canon_cons_unit_zero (S := S512x128) hz, readCov_cons (S := S512x128) _ hz, View.readAt_eq_ld, h1.read_unread, h2.read_unread, h3.read_unread, h4.read_unread, h5.read_unread, View.ld_unit_zero (S := S512x4096) hz, View.ld_unit_zero (S := S512x1) hz]
  exact lanes_eq x0 x1 x2 x3 x4

theorem out0_B_5_eq (c : Dev nD) (i : grid0.Coords) (a1 : Memref sig .tc .vmem S512x4096 .fp8e4m3) (h1 : a1.IsWhole)
    (a2 : Memref sig .tc .vmem S512x1 .f32) (h2 : a2.IsWhole) (a3 : Memref sig .tc .vmem S3072x4096 .fp8e4m3) (h3 : a3.IsWhole)
    (a4 : Memref sig .tc .vmem S1x3072 .f32) (h4 : a4.IsWhole) (a5 : Memref sig .tc .vmem S1x3072 .f32) (h5 : a5.IsWhole)
    (a6 : Memref sig .tc .vmem S512x1 .f32) (h6 : a6.IsWhole) (a7 : Memref sig .tc .vmem S512x3072 .fp8e4m3) (h7 : a7.IsWhole)
    (a8 : Memref sig .tc .vmem S512x3072 .f32) (h8 : a8.IsWhole) (a9 : Memref sig .tc .vmem S512x128 .f32) (h9 : a9.IsWhole)
    (hc0 : ¬cond0_0 i) (hc1 : cond0_1 i) (hc2 : ¬cond0_2 i)
    (x0 : Vec Ideal S512x4096 .fp8e4m3) (x1 : Vec Ideal S512x1 .f32) (x2 : Vec Ideal S3072x4096 .fp8e4m3)
    (x3 : Vec Ideal S1x3072 .f32) (x4 : Vec Ideal S1x3072 .f32) (y : Vec Ideal S512x3072 .f32) (m : Vec Ideal S512x128 .f32) (hm : ∀ r, 0 ≤ m (ix2 r 0)) :
    out0_B_5 (F := Ideal) c i a1 h1 a2 h2 a3 h3 a4 h4 a5 h5 a6 h6 a7 h7 a8 h8 a9 h9 hc0 hc1 hc2 x0 x1 x2 x3 x4 y m = scaleTile m := by
  unfold out0_B_5
  rw [View.read_writes_eq_canon _ _ _ (cover0_B_5 c i a1 h1 a2 h2 a3 h3 a4 h4 a5 h5 a6 h6 a7 h7 a8 h8 a9 h9 hc0 hc1 hc2 x0 x1 x2 x3 x4 y m)]
  unfold kernelRun0_B; dsimp only; sl_unfold_words
  simp only [View.canon_cons_unit_zero (S := S512x1) hz, View.readAt_eq_ld, h9.read_unread, View.ld_unit_zero (S := S512x128) hz]
  funext j
  exact pay14_apply m j (hm _)

theorem out0_B_6_eq (c : Dev nD) (i : grid0.Coords) (a1 : Memref sig .tc .vmem S512x4096 .fp8e4m3) (h1 : a1.IsWhole)
    (a2 : Memref sig .tc .vmem S512x1 .f32) (h2 : a2.IsWhole) (a3 : Memref sig .tc .vmem S3072x4096 .fp8e4m3) (h3 : a3.IsWhole)
    (a4 : Memref sig .tc .vmem S1x3072 .f32) (h4 : a4.IsWhole) (a5 : Memref sig .tc .vmem S1x3072 .f32) (h5 : a5.IsWhole)
    (a6 : Memref sig .tc .vmem S512x1 .f32) (h6 : a6.IsWhole) (a7 : Memref sig .tc .vmem S512x3072 .fp8e4m3) (h7 : a7.IsWhole)
    (a8 : Memref sig .tc .vmem S512x3072 .f32) (h8 : a8.IsWhole) (a9 : Memref sig .tc .vmem S512x128 .f32) (h9 : a9.IsWhole)
    (hc0 : ¬cond0_0 i) (hc1 : cond0_1 i) (hc2 : ¬cond0_2 i)
    (x0 : Vec Ideal S512x4096 .fp8e4m3) (x1 : Vec Ideal S512x1 .f32) (x2 : Vec Ideal S3072x4096 .fp8e4m3)
    (x3 : Vec Ideal S1x3072 .f32) (x4 : Vec Ideal S1x3072 .f32) (y : Vec Ideal S512x3072 .f32) (m : Vec Ideal S512x128 .f32) (hm : ∀ r, 0 ≤ m (ix2 r 0)) :
    out0_B_6 (F := Ideal) c i a1 h1 a2 h2 a3 h3 a4 h4 a5 h5 a6 h6 a7 h7 a8 h8 a9 h9 hc0 hc1 hc2 x0 x1 x2 x3 x4 y m = codeTile y m := by
  unfold out0_B_6
  rw [View.read_writes_eq_canon _ _ _ (cover0_B_6 c i a1 h1 a2 h2 a3 h3 a4 h4 a5 h5 a6 h6 a7 h7 a8 h8 a9 h9 hc0 hc1 hc2 x0 x1 x2 x3 x4 y m)]
  unfold kernelRun0_B; dsimp only; sl_unfold_words
  simp only [View.readAt_eq_ld, h8.read_unread, h9.read_unread, View.ld_unit_zero (S := S512x128) hz]
  exact canon_tiles (codeTile y m) _ _ _ _ _ _ _ _ _ _ _ _ [] (codes_apply y m hm 0 _ _) (codes_apply y m hm 512 _ _)
    (codes_apply y m hm 1024 _ _) (codes_apply y m hm 1536 _ _) (codes_apply y m hm 2048 _ _) (codes_apply y m hm 2560 _ _)

theorem sout0_B_0_eq (c : Dev nD) (i : grid0.Coords) (a1 : Memref sig .tc .vmem S512x4096 .fp8e4m3) (h1 : a1.IsWhole)
    (a2 : Memref sig .tc .vmem S512x1 .f32) (h2 : a2.IsWhole) (a3 : Memref sig .tc .vmem S3072x4096 .fp8e4m3) (h3 : a3.IsWhole)
    (a4 : Memref sig .tc .vmem S1x3072 .f32) (h4 : a4.IsWhole) (a5 : Memref sig .tc .vmem S1x3072 .f32) (h5 : a5.IsWhole)
    (a6 : Memref sig .tc .vmem S512x1 .f32) (h6 : a6.IsWhole) (a7 : Memref sig .tc .vmem S512x3072 .fp8e4m3) (h7 : a7.IsWhole)
    (a8 : Memref sig .tc .vmem S512x3072 .f32) (h8 : a8.IsWhole) (a9 : Memref sig .tc .vmem S512x128 .f32) (h9 : a9.IsWhole)
    (hc0 : ¬cond0_0 i) (hc1 : cond0_1 i) (hc2 : ¬cond0_2 i)
    (x0 : Vec Ideal S512x4096 .fp8e4m3) (x1 : Vec Ideal S512x1 .f32) (x2 : Vec Ideal S3072x4096 .fp8e4m3)
    (x3 : Vec Ideal S1x3072 .f32) (x4 : Vec Ideal S1x3072 .f32) (y : Vec Ideal S512x3072 .f32) (m : Vec Ideal S512x128 .f32) :
    sout0_B_0 (F := Ideal) c i a1 h1 a2 h2 a3 h3 a4 h4 a5 h5 a6 h6 a7 h7 a8 h8 a9 h9 hc0 hc1 hc2 x0 x1 x2 x3 x4 y m = yTile x0 x1 x2 x3 x4 := by
  unfold sout0_B_0
  rw [View.read_writes_eq_canon _ _ _ (scover0_B_0 c i a1 h1 a2 h2 a3 h3 a4 h4 a5 h5 a6 h6 a7 h7 a8 h8 a9 h9 hc0 hc1 hc2 x0 x1 x2 x3 x4 y m)]
  unfold kernelRun0_B; dsimp only; sl_unfold_words
  simp only [View.readAt_eq_ld, h1.read_unread, h2.read_unread, h3.read_unread, h4.read_unread, h5.read_unread, View.ld_unit_zero (S := S512x4096) hz, View.ld_unit_zero (S := S512x1) hz]
  exact canon_tiles (yTile x0 x1 x2 x3 x4) _ _ _ _ _ _ _ _ _ _ _ _ []
    (stored_apply x0 x1 x2 x3 x4 0 _ _ _ _)
    (stored_apply x0 x1 x2 x3 x4 512 _ _ _ _)
    (stored_apply x0 x1 x2 x3 x4 1024 _ _ _ _)
    (stored_apply x0 x1 x2 x3 x4 1536 _ _ _ _)
    (stored_apply x0 x1 x2 x3 x4 2048 _ _ _ _)
    (stored_apply x0 x1 x2 x3 x4 2560 _ _ _ _)

theorem sout0_B_1_eq (c : Dev nD) (i : grid0.Coords) (a1 : Memref sig .tc .vmem S512x4096 .fp8e4m3) (h1 : a1.IsWhole)
    (a2 : Memref sig .tc .vmem S512x1 .f32) (h2 : a2.IsWhole) (a3 : Memref sig .tc .vmem S3072x4096 .fp8e4m3) (h3 : a3.IsWhole)
    (a4 : Memref sig .tc .vmem S1x3072 .f32) (h4 : a4.IsWhole) (a5 : Memref sig .tc .vmem S1x3072 .f32) (h5 : a5.IsWhole)
    (a6 : Memref sig .tc .vmem S512x1 .f32) (h6 : a6.IsWhole) (a7 : Memref sig .tc .vmem S512x3072 .fp8e4m3) (h7 : a7.IsWhole)
    (a8 : Memref sig .tc .vmem S512x3072 .f32) (h8 : a8.IsWhole) (a9 : Memref sig .tc .vmem S512x128 .f32) (h9 : a9.IsWhole)
    (hc0 : ¬cond0_0 i) (hc1 : cond0_1 i) (hc2 : ¬cond0_2 i)
    (x0 : Vec Ideal S512x4096 .fp8e4m3) (x1 : Vec Ideal S512x1 .f32) (x2 : Vec Ideal S3072x4096 .fp8e4m3)
    (x3 : Vec Ideal S1x3072 .f32) (x4 : Vec Ideal S1x3072 .f32) (y : Vec Ideal S512x3072 .f32) (m : Vec Ideal S512x128 .f32) :
    sout0_B_1 (F := Ideal) c i a1 h1 a2 h2 a3 h3 a4 h4 a5 h5 a6 h6 a7 h7 a8 h8 a9 h9 hc0 hc1 hc2 x0 x1 x2 x3 x4 y m = laneTile (yTile x0 x1 x2 x3 x4) := by
  unfold sout0_B_1
  rw [View.read_writes_eq_canon _ _ _ (scover0_B_1 c i a1 h1 a2 h2 a3 h3 a4 h4 a5 h5 a6 h6 a7 h7 a8 h8 a9 h9 hc0 hc1 hc2 x0 x1 x2 x3 x4 y m)]
  unfold kernelRun0_B; dsimp only; sl_unfold_words
  simp only [View.canon_cons_unit_zero (S := S512x128) hz, readCov_cons (S := S512x128) _ hz, View.readAt_eq_ld, h1.read_unread, h2.read_unread, h3.read_unread, h4.read_unread, h5.read_unread, View.ld_unit_zero (S := S512x4096) hz, View.ld_unit_zero (S := S512x1) hz]
  exact lanes_eq x0 x1 x2 x3 x4

theorem out0_C_5_eq (c : Dev nD) (i : grid0.Coords) (a1 : Memref sig .tc .vmem S512x4096 .fp8e4m3) (h1 : a1.IsWhole)
    (a2 : Memref sig .tc .vmem S512x1 .f32) (h2 : a2.IsWhole) (a3 : Memref sig .tc .vmem S3072x4096 .fp8e4m3) (h3 : a3.IsWhole)
    (a4 : Memref sig .tc .vmem S1x3072 .f32) (h4 : a4.IsWhole) (a5 : Memref sig .tc .vmem S1x3072 .f32) (h5 : a5.IsWhole)
    (a6 : Memref sig .tc .vmem S512x1 .f32) (h6 : a6.IsWhole) (a7 : Memref sig .tc .vmem S512x3072 .fp8e4m3) (h7 : a7.IsWhole)
    (a8 : Memref sig .tc .vmem S512x3072 .f32) (h8 : a8.IsWhole) (a9 : Memref sig .tc .vmem S512x128 .f32) (h9 : a9.IsWhole)
    (hc0 : ¬cond0_0 i) (hc1 : ¬cond0_1 i) (hc2 : cond0_2 i)
    (x0 : Vec Ideal S512x4096 .fp8e4m3) (x1 : Vec Ideal S512x1 .f32) (x2 : Vec Ideal S3072x4096 .fp8e4m3)
    (x3 : Vec Ideal S1x3072 .f32) (x4 : Vec Ideal S1x3072 .f32) (y : Vec Ideal S512x3072 .f32) (m : Vec Ideal S512x128 .f32) (hm : ∀ r, 0 ≤ m (ix2 r 0)) :
    out0_C_5 (F := Ideal) c i a1 h1 a2 h2 a3 h3 a4 h4 a5 h5 a6 h6 a7 h7 a8 h8 a9 h9 hc0 hc1 hc2 x0 x1 x2 x3 x4 y m = scaleTile m := by
  unfold out0_C_5
  rw [View.read_writes_eq_canon _ _ _ (cover0_C_5 c i a1 h1 a2 h2 a3 h3 a4 h4 a5 h5 a6 h6 a7 h7 a8 h8 a9 h9 hc0 hc1 hc2 x0 x1 x2 x3 x4 y m)]
  unfold kernelRun0_C; dsimp only; sl_unfold_words
  simp only [View.canon_cons_unit_zero (S := S512x1) hz, View.readAt_eq_ld, h9.read_unread, View.ld_unit_zero (S := S512x128) hz]
  funext j
  exact pay14_apply m j (hm _)

theorem out0_C_6_eq (c : Dev nD) (i : grid0.Coords) (a1 : Memref sig .tc .vmem S512x4096 .fp8e4m3) (h1 : a1.IsWhole)
    (a2 : Memref sig .tc .vmem S512x1 .f32) (h2 : a2.IsWhole) (a3 : Memref sig .tc .vmem S3072x4096 .fp8e4m3) (h3 : a3.IsWhole)
    (a4 : Memref sig .tc .vmem S1x3072 .f32) (h4 : a4.IsWhole) (a5 : Memref sig .tc .vmem S1x3072 .f32) (h5 : a5.IsWhole)
    (a6 : Memref sig .tc .vmem S512x1 .f32) (h6 : a6.IsWhole) (a7 : Memref sig .tc .vmem S512x3072 .fp8e4m3) (h7 : a7.IsWhole)
    (a8 : Memref sig .tc .vmem S512x3072 .f32) (h8 : a8.IsWhole) (a9 : Memref sig .tc .vmem S512x128 .f32) (h9 : a9.IsWhole)
    (hc0 : ¬cond0_0 i) (hc1 : ¬cond0_1 i) (hc2 : cond0_2 i)
    (x0 : Vec Ideal S512x4096 .fp8e4m3) (x1 : Vec Ideal S512x1 .f32) (x2 : Vec Ideal S3072x4096 .fp8e4m3)
    (x3 : Vec Ideal S1x3072 .f32) (x4 : Vec Ideal S1x3072 .f32) (y : Vec Ideal S512x3072 .f32) (m : Vec Ideal S512x128 .f32) (hm : ∀ r, 0 ≤ m (ix2 r 0)) :
    out0_C_6 (F := Ideal) c i a1 h1 a2 h2 a3 h3 a4 h4 a5 h5 a6 h6 a7 h7 a8 h8 a9 h9 hc0 hc1 hc2 x0 x1 x2 x3 x4 y m = codeTile y m := by
  unfold out0_C_6
  rw [View.read_writes_eq_canon _ _ _ (cover0_C_6 c i a1 h1 a2 h2 a3 h3 a4 h4 a5 h5 a6 h6 a7 h7 a8 h8 a9 h9 hc0 hc1 hc2 x0 x1 x2 x3 x4 y m)]
  unfold kernelRun0_C; dsimp only; sl_unfold_words
  simp only [View.readAt_eq_ld, h8.read_unread, h9.read_unread, View.ld_unit_zero (S := S512x128) hz]
  exact canon_tiles (codeTile y m) _ _ _ _ _ _ _ _ _ _ _ _ [] (codes_apply y m hm 0 _ _) (codes_apply y m hm 512 _ _)
    (codes_apply y m hm 1024 _ _) (codes_apply y m hm 1536 _ _) (codes_apply y m hm 2048 _ _) (codes_apply y m hm 2560 _ _)

end Cert.KernelIdeal.Value
end
-- ==== Proof.Rows.lean ====
module
public import proofs.«01_k».proof.Proof.Block

@[expose] public section
set_option maxRecDepth 16384
noncomputable section
open Idealize.ShloMosaic Cert.Exponent

/-! The row maximum taken through lane maxima is the maximum over the whole row. -/

namespace Cert.KernelIdeal.Value
open Cert.KernelIdeal Cert.KernelIdeal.Gen Idealize.ShloMosaic.TcCoe

/-- The scale of one row of values. -/
def scaleRow (f : Fin 3072 → EReal) : EReal := scale (rowMax (fun n => mag (f n)) * c448)

/-- The code of one element of a row of values. -/
def codeRow (f : Fin 3072 → EReal) (n : Fin 3072) : EReal := clip (f n * invScale (rowMax (fun n => mag (f n)) * c448))

theorem quarter {v : ℕ} (h : v < 512) :
    v = v % 128 ∨ v = 128 + v % 128 ∨ v = 256 + v % 128 ∨ v = 384 + v % 128 := by omega

/-- Bounding every lane of a chunk bounds every column of the chunk, and conversely. -/
theorem lanes_le (f : Fin 512 → EReal) (c : EReal) : (∀ l, lane f l ≤ c) ↔ ∀ n, mag (f n) ≤ c := by
  unfold lane
  simp only [max_le_iff]
  constructor
  · intro h n
    obtain ⟨⟨⟨h0, h1⟩, h2⟩, h3⟩ := h ⟨n.val % 128, Nat.mod_lt _ (by decide)⟩
    rcases quarter n.isLt with e | e | e | e
    · rwa [show n = ⟨n.val % 128, by omega⟩ from Fin.ext e]
    · rwa [show n = ⟨128 + n.val % 128, by omega⟩ from Fin.ext e]
    · rwa [show n = ⟨256 + n.val % 128, by omega⟩ from Fin.ext e]
    · rwa [show n = ⟨384 + n.val % 128, by omega⟩ from Fin.ext e]
  · exact fun h l => ⟨⟨⟨h _, h _⟩, h _⟩, h _⟩

/-- A column lies in one of the six chunks. -/
theorem chunk_of {v : ℕ} (h : v < 3072) : (v < 512 ∧ v = 0 + v) ∨ (512 ≤ v ∧ v - 512 < 512 ∧ v = 512 + (v - 512)) ∨
    (1024 ≤ v ∧ v - 1024 < 512 ∧ v = 1024 + (v - 1024)) ∨ (1536 ≤ v ∧ v - 1536 < 512 ∧ v = 1536 + (v - 1536)) ∨
    (2048 ≤ v ∧ v - 2048 < 512 ∧ v = 2048 + (v - 2048)) ∨ (2560 ≤ v ∧ v - 2560 < 512 ∧ v = 2560 + (v - 2560)) := by omega

/-- Bounding every chunk bounds the row, and conversely. -/
theorem chunks_le (f : Fin 3072 → EReal) (c : EReal) :
    ((∀ n : Fin 512, f ⟨0 + n, by omega⟩ ≤ c) ∧ (∀ n : Fin 512, f ⟨512 + n, by omega⟩ ≤ c) ∧ (∀ n : Fin 512, f ⟨1024 + n, by omega⟩ ≤ c)
      ∧ (∀ n : Fin 512, f ⟨1536 + n, by omega⟩ ≤ c) ∧ (∀ n : Fin 512, f ⟨2048 + n, by omega⟩ ≤ c)
      ∧ (∀ n : Fin 512, f ⟨2560 + n, by omega⟩ ≤ c)) ↔ ∀ n, f n ≤ c := by
  constructor
  · rintro ⟨h0, h1, h2, h3, h4, h5⟩ n
    have hn := n.isLt
    rcases chunk_of hn with ⟨a, e⟩ | ⟨_, a, e⟩ | ⟨_, a, e⟩ | ⟨_, a, e⟩ | ⟨_, a, e⟩ | ⟨_, a, e⟩
    · rw [show n = ⟨0 + n.val, by omega⟩ from Fin.ext e]; exact h0 ⟨_, a⟩
    · rw [show n = ⟨512 + (n.val - 512), by omega⟩ from Fin.ext e]; exact h1 ⟨_, a⟩
    · rw [show n = ⟨1024 + (n.val - 1024), by omega⟩ from Fin.ext e]; exact h2 ⟨_, a⟩
    · rw [show n = ⟨1536 + (n.val - 1536), by omega⟩ from Fin.ext e]; exact h3 ⟨_, a⟩
    · rw [show n = ⟨2048 + (n.val - 2048), by omega⟩ from Fin.ext e]; exact h4 ⟨_, a⟩
    · rw [show n = ⟨2560 + (n.val - 2560), by omega⟩ from Fin.ext e]; exact h5 ⟨_, a⟩
  · exact fun h => ⟨fun _ => h _, fun _ => h _, fun _ => h _, fun _ => h _, fun _ => h _, fun _ => h _⟩

theorem rowMax_lanes (f : Fin 3072 → EReal) :
    rowMax (fun l : Fin 128 => max (max (max (max (max (lane (fun n => f ⟨0 + n, by omega⟩) l) (lane (fun n => f ⟨512 + n, by omega⟩) l))
      (lane (fun n => f ⟨1024 + n, by omega⟩) l)) (lane (fun n => f ⟨1536 + n, by omega⟩) l))
      (lane (fun n => f ⟨2048 + n, by omega⟩) l)) (lane (fun n => f ⟨2560 + n, by omega⟩) l))
      = rowMax (fun n => mag (f n)) := by
  refine eq_of_forall_ge_iff fun c => ?_
  rw [rowMax_le, rowMax_le, ← chunks_le (fun n => mag (f n))]
  refine and_congr_right fun _ => ?_
  simp only [max_le_iff, forall_and, lanes_le, and_assoc]

theorem rowV_laneTile (y : Vec Ideal S512x3072 .f32) (r : Fin 512) :
    rowV (laneTile y) r = rowMax (fun n => mag (y (ix2 r n))) * c448 :=
  congrArg (· * c448) (rowMax_lanes fun n => y (ix2 r n))

/-- Lane maxima of magnitudes are not negative. -/
theorem laneTile_nonneg (y : Vec Ideal S512x3072 .f32) (r : Fin 512) : 0 ≤ laneTile y (ix2 r 0) :=
  le_max_of_le_right (le_max_of_le_right (mag_nonneg _))

theorem scaleTile_laneTile (y : Vec Ideal S512x3072 .f32) (j : S512x1.Idx) :
    scaleTile (laneTile y) j = scaleRow (fun n => y (ix2 (j 0) n)) :=
  congrArg scale (rowV_laneTile y (j 0))

theorem codeTile_laneTile (y : Vec Ideal S512x3072 .f32) (j : S512x3072.Idx) :
    codeTile y (laneTile y) j = codeRow (fun n => y (ix2 (j 0) n)) (j 1) := by
  have h : y j = y (ix2 (j 0) (j 1)) := congrArg y (Shape.idx_ext₂ rfl rfl)
  show clip (y j * invScale (rowV (laneTile y) (j 0))) = clip (y (ix2 (j 0) (j 1)) * invScale _)
  rw [h]
  exact congrArg (fun v => clip (y (ix2 (j 0) (j 1)) * invScale v)) (rowV_laneTile y (j 0))

end Cert.KernelIdeal.Value
-- ==== Proof.Array.lean ====
module
public import proofs.«01_k».proof.Proof.Rows
public import Idealize.ShloMosaic.Lib.StableHlo.Run

@[expose] public section
set_option maxRecDepth 16384
noncomputable section
open Idealize.ShloMosaic Cert.Exponent
open Idealize.ShloMosaic.Pipeline (Dat)

/-! The kernel's two result arrays: every row's scale and every element's code, as functions of the operand arrays. -/

namespace Cert.KernelIdeal.Value
open Cert.KernelIdeal Cert.KernelIdeal.Gen Idealize.ShloMosaic.TcCoe

/-- One element of the linear layer: the dot product of a row of codes and a row of weights, scaled by the row's and the
    column's scale, plus the bias. -/
def linear (x : Vec Ideal S24576x4096 .fp8e4m3) (xs : Vec Ideal S24576x1 .f32) (w : Vec Ideal S3072x4096 .fp8e4m3)
    (ws b : Vec Ideal S1x3072 .f32) (r : Fin 24576) (n : Fin 3072) : EReal :=
  (∑ k, x (ix2 r k) * w (ix2 n k)) * xs (ix2 r 0) * ws (ix2 0 n) + b (ix2 0 n)

variable (m : (ℓ : Loc nD τ sig) → Buf (Elt Ideal) ℓ)

/-- The linear layer of the operand arrays. -/
def lin (c : Dev nD) (r : Fin 24576) (n : Fin 3072) : EReal :=
  linear (V m c main_v0) (V m c main_v1) (V m c main_arg2) (V m c main_v2) (V m c main_v3) r n

/-- Every row's scale. -/
def scales (c : Dev nD) : Buf (Elt Ideal) ((c : Thread nD τ).loc main_v4_0) :=
  fun i : S24576x1.Idx => scaleRow (lin m c (i 0))

/-- Every element's code. -/
def codes (c : Dev nD) : Buf (Elt Ideal) ((c : Thread nD τ).loc main_v4_1) :=
  fun i : S24576x3072.Idx => codeRow (lin m c (i 0)) (i 1)

theorem ix_0 : ∀ t : Fin grid0.N, win0_0.index t 0 = min t.val 47 ∧ win0_0.index t 1 = 0 := by decide +kernel
theorem ix_1 : ∀ t : Fin grid0.N, win0_1.index t 0 = min t.val 47 ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = 0 ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = t.val - 1 ∧ win0_5.index t 1 = 0 := by decide +kernel
theorem ix_6 : ∀ t : Fin grid0.N, win0_6.index t 0 = t.val - 1 ∧ win0_6.index t 1 = 0 := by decide +kernel
theorem fl_5 : ∀ t : Fin grid0.N, win0_5.flush t = true ↔ 1 ≤ t.val := by decide +kernel
theorem fl_6 : ∀ t : Fin grid0.N, win0_6.flush t = true ↔ 1 ≤ t.val := by decide +kernel
theorem lt49 (t : Fin cfg0.N) : t.val < 49 := lt_of_lt_of_eq t.isLt N_0

/-- The row of the operand arrays that a row of a tile is. -/
def row (n : ℕ) (r : Fin 512) (h : n < 48) : Fin 24576 := ⟨n * 512 + r, by omega⟩

theorem iblk_0 (c : Dev nD) (t : Fin cfg0.N) (h : t.val < 48) (r : Fin 512) (k : Fin 4096) :
    (iblk m c 0 t : Vec Ideal S512x4096 .fp8e4m3) (ix2 r k) = (V m c main_v0 : Vec Ideal S24576x4096 .fp8e4m3) (ix2 (row t.val r h) k) := by
  unfold iblk
  rw [View.read_apply]
  show V m c main_v0 _ = V m c main_v0 _
  congr 1
  apply Shape.idx_ext₂
  · show win0_0.index t 0 * 512 + 1 * r.val = t.val * 512 + r.val
    rw [(ix_0 t).1, min_eq_left (by omega)]; omega
  · show win0_0.index t 1 * 4096 + 1 * k.val = k.val
    rw [(ix_0 t).2]; omega

theorem iblk_1 (c : Dev nD) (t : Fin cfg0.N) (h : t.val < 48) (r : Fin 512) :
    (iblk m c 1 t : Vec Ideal S512x1 .f32) (ix2 r 0) = (V m c main_v1 : Vec Ideal S24576x1 .f32) (ix2 (row t.val r h) 0) := by
  unfold iblk
  rw [View.read_apply]
  show V m c main_v1 _ = V m c main_v1 _
  congr 1
  apply Shape.idx_ext₂
  · show win0_1.index t 0 * 512 + 1 * r.val = t.val * 512 + r.val
    rw [(ix_1 t).1, min_eq_left (by omega)]; omega
  · show win0_1.index t 1 * 1 + 1 * 0 = 0
    rw [(ix_1 t).2]

theorem iblk_2 (c : Dev nD) (t : Fin cfg0.N) (n : Fin 3072) (k : Fin 4096) :
    (iblk m c 2 t : Vec Ideal S3072x4096 .fp8e4m3) (ix2 n k) = (V m c main_arg2 : Vec Ideal S3072x4096 .fp8e4m3) (ix2 n k) := by
  unfold iblk
  rw [View.read_apply]
  show V m c main_arg2 _ = V m c main_arg2 _
  congr 1
  apply Shape.idx_ext₂
  · show win0_2.index t 0 * 3072 + 1 * n.val = n.val
    rw [(ix_2 t).1]; omega
  · show win0_2.index t 1 * 4096 + 1 * k.val = k.val
    rw [(ix_2 t).2]; omega

theorem iblk_3 (c : Dev nD) (t : Fin cfg0.N) (n : Fin 3072) :
    (iblk m c 3 t : Vec Ideal S1x3072 .f32) (ix2 0 n) = (V m c main_v2 : Vec Ideal S1x3072 .f32) (ix2 0 n) := by
  unfold iblk
  rw [View.read_apply]
  show V m c main_v2 _ = V m c main_v2 _
  congr 1
  apply Shape.idx_ext₂
  · show win0_3.index t 0 * 1 + 1 * 0 = 0
    rw [(ix_3 t).1]
  · show win0_3.index t 1 * 3072 + 1 * n.val = n.val
    rw [(ix_3 t).2]; omega

theorem iblk_4 (c : Dev nD) (t : Fin cfg0.N) (n : Fin 3072) :
    (iblk m c 4 t : Vec Ideal S1x3072 .f32) (ix2 0 n) = (V m c main_v3 : Vec Ideal S1x3072 .f32) (ix2 0 n) := by
  unfold iblk
  rw [View.read_apply]
  show V m c main_v3 _ = V m c main_v3 _
  congr 1
  apply Shape.idx_ext₂
  · show win0_4.index t 0 * 1 + 1 * 0 = 0
    rw [(ix_4 t).1]
  · show win0_4.index t 1 * 3072 + 1 * n.val = n.val
    rw [(ix_4 t).2]; omega

/-- The linear layer of the operand blocks of a grid point. -/
def tile (c : Dev nD) (t : Fin cfg0.N) : Vec Ideal S512x3072 .f32 :=
  yTile (iblk m c 0 t) (iblk m c 1 t) (iblk m c 2 t) (iblk m c 3 t) (iblk m c 4 t)

/-- A tile's linear layer, when the tile's operands are rows of the operand arrays. -/
theorem yTile_linear (x0 : Vec Ideal S512x4096 .fp8e4m3) (x1 : Vec Ideal S512x1 .f32) (x2 : Vec Ideal S3072x4096 .fp8e4m3)
    (x3 x4 : Vec Ideal S1x3072 .f32) (x : Vec Ideal S24576x4096 .fp8e4m3) (xs : Vec Ideal S24576x1 .f32)
    (w : Vec Ideal S3072x4096 .fp8e4m3) (ws b : Vec Ideal S1x3072 .f32) (r : Fin 512) (R : Fin 24576) (n : Fin 3072)
    (e0 : ∀ k, x0 (ix2 r k) = x (ix2 R k)) (e1 : x1 (ix2 r 0) = xs (ix2 R 0)) (e2 : ∀ k, x2 (ix2 n k) = w (ix2 n k))
    (e3 : x3 (ix2 0 n) = ws (ix2 0 n)) (e4 : x4 (ix2 0 n) = b (ix2 0 n)) :
    yTile x0 x1 x2 x3 x4 (ix2 r n) = linear x xs w ws b R n := by
  show (∑ k, x0 (ix2 r k) * x2 (ix2 n k)) * x1 (ix2 r 0) * x3 (ix2 0 n) + x4 (ix2 0 n) = _
  unfold linear
  rw [e1, e3, e4]
  simp only [e0, e2]

/-- It is the point's row block of the linear layer of the operand arrays. -/
theorem tile_eq (c : Dev nD) (t : Fin cfg0.N) (h : t.val < 48) (r : Fin 512) (n : Fin 3072) :
    tile m c t (ix2 r n) = lin m c (row t.val r h) n :=
  yTile_linear _ _ _ _ _ _ _ _ _ _ r _ n (iblk_0 m c t h r) (iblk_1 m c t h r) (iblk_2 m c t n) (iblk_3 m c t n) (iblk_4 m c t n)

/-- What the scratch buffers hold after a point that computes a tile. -/
theorem scratch_eq (c : Dev nD) (t : Fin cfg0.N) (h : t.val < 48) :
    (outsAt0 m c t.val t.isLt).2.2.1 = tile m c t ∧ (outsAt0 m c t.val t.isLt).2.2.2 = laneTile (tile m c t) := by
  by_cases h0 : t.val % 49 = 0
  · rw [outsAt0_A m c t h0 h (by omega)]
    exact ⟨by dsimp only; unfold tile; exact sout0_A_0_eq .., by dsimp only; unfold tile; exact sout0_A_1_eq ..⟩
  · rw [outsAt0_B m c t h0 h (by omega)]
    exact ⟨by dsimp only; unfold tile; exact sout0_B_0_eq .., by dsimp only; unfold tile; exact sout0_B_1_eq ..⟩

/-- What a later point leaves in the output blocks: the previous point's tile, quantised. -/
theorem outputs_eq (c : Dev nD) (t : Fin cfg0.N) (h : 1 ≤ t.val) (s : Fin cfg0.N) (hs : s.val = t.val - 1) :
    (outsAt0 m c t.val t.isLt).1 = scaleTile (laneTile (tile m c s)) ∧
      (outsAt0 m c t.val t.isLt).2.1 = codeTile (tile m c s) (laneTile (tile m c s)) := by
  have ht := lt49 t
  obtain ⟨e0, e1⟩ := scratch_eq m c s (by omega)
  obtain rfl : s = ⟨t.val - 1, Nat.lt_of_le_of_lt (Nat.sub_le _ _) t.isLt⟩ := Fin.ext hs
  dsimp only at e0 e1
  by_cases h1 : t.val < 48
  · rw [outsAt0_B m c t (by omega) h1 (by omega), e0, e1]
    exact ⟨by dsimp only; exact out0_B_5_eq (hm := laneTile_nonneg _) .., by dsimp only; exact out0_B_6_eq (hm := laneTile_nonneg _) ..⟩
  · rw [outsAt0_C m c t (by omega) h1 (by omega), e0, e1]
    exact ⟨by dsimp only; exact out0_C_5_eq (hm := laneTile_nonneg _) .., by dsimp only; exact out0_C_6_eq (hm := laneTile_nonneg _) ..⟩

theorem flushed_5 (c : Dev nD) (t : Fin cfg0.N) (hf : (cfg0.win 5).flush t = true) :
    (dats m 0 c).flushed 5 t = ((cfg0.win 5).blk t).view.read (Elt Ideal) (scales m c) := by
  have h1 : 1 ≤ t.val := (fl_5 t).mp hf
  have h2 := lt49 t
  have hl : t.val - 1 < 48 := by omega
  rw [flushed5, (outputs_eq m c t h1 ⟨t.val - 1, Nat.lt_of_le_of_lt (Nat.sub_le _ _) t.isLt⟩ rfl).1]
  funext j
  rw [View.read_apply]
  show scaleTile (laneTile (tile m c _)) j = scaleRow (lin m c _)
  rw [scaleTile_laneTile]
  refine congrArg scaleRow (funext fun n => (tile_eq m c _ hl (j 0) n).trans ?_)
  refine congrArg (fun r => lin m c r n) (Fin.ext ?_)
  show (t.val - 1) * 512 + (j 0).val = win0_5.index t 0 * 512 + 1 * (j 0).val
  rw [(ix_5 t).1]; omega

theorem flushed_6 (c : Dev nD) (t : Fin cfg0.N) (hf : (cfg0.win 6).flush t = true) :
    (dats m 0 c).flushed 6 t = ((cfg0.win 6).blk t).view.read (Elt Ideal) (codes m c) := by
  have h1 : 1 ≤ t.val := (fl_6 t).mp hf
  have h2 := lt49 t
  have hl : t.val - 1 < 48 := by omega
  rw [flushed6, (outputs_eq m c t h1 ⟨t.val - 1, Nat.lt_of_le_of_lt (Nat.sub_le _ _) t.isLt⟩ rfl).2]
  funext j
  rw [View.read_apply]
  show codeTile (tile m c _) (laneTile (tile m c _)) j = codeRow (lin m c _) _
  rw [codeTile_laneTile]
  refine congrArg₂ codeRow (funext fun n => (tile_eq m c _ hl (j 0) n).trans ?_) (Fin.ext ?_)
  · refine congrArg (fun r => lin m c r n) (Fin.ext ?_)
    show (t.val - 1) * 512 + (j 0).val = win0_6.index t 0 * 512 + 1 * (j 0).val
    rw [(ix_6 t).1]; omega
  · show (j 1).val = win0_6.index t 1 * 3072 + 1 * (j 1).val
    rw [(ix_6 t).2]; omega

/-- The point that writes a row back. -/
def pt (r : Fin 24576) : Fin cfg0.N := ⟨r.val / 512 + 1, by rw [show cfg0.N = 49 from N_0]; omega⟩

theorem final_5 (c : Dev nD) : (dats m 0 c).arrAt 5 cfg0.N = scales m c :=
  (dats m 0 c).arrAt_eq_of_cover 5 (scales m c) (flushed_5 m c) fun i =>
    ⟨pt (i 0), (fl_5 _).mpr (Nat.le_add_left _ _), by
      show i ∈ ((View.whole main_v4_0).slice (win0_5.rect (pt (i 0)))).set
      rw [View.set_slice_whole, Rect.mem_set_unit]
      intro a
      have h0 : (i 0 : Nat) < 24576 := (i 0).isLt
      have h1 : (i 1 : Nat) < 1 := (i 1).isLt
      match a with
      | ⟨0, _⟩ =>
        show win0_5.index (pt (i 0)) 0 * 512 ≤ (i 0 : Nat) ∧ (i 0 : Nat) < win0_5.index (pt (i 0)) 0 * 512 + 512
        rw [(ix_5 _).1]; show ((i 0 : Nat) / 512 + 1 - 1) * 512 ≤ (i 0 : Nat) ∧ (i 0 : Nat) < ((i 0 : Nat) / 512 + 1 - 1) * 512 + 512
        omega
      | ⟨1, _⟩ =>
        show win0_5.index (pt (i 0)) 1 * 1 ≤ (i 1 : Nat) ∧ (i 1 : Nat) < win0_5.index (pt (i 0)) 1 * 1 + 1
        rw [(ix_5 _).2]; omega⟩

theorem final_6 (c : Dev nD) : (dats m 0 c).arrAt 6 cfg0.N = codes m c :=
  (dats m 0 c).arrAt_eq_of_cover 6 (codes m c) (flushed_6 m c) fun i =>
    ⟨pt (i 0), (fl_6 _).mpr (Nat.le_add_left _ _), by
      show i ∈ ((View.whole main_v4_1).slice (win0_6.rect (pt (i 0)))).set
      rw [View.set_slice_whole, Rect.mem_set_unit]
      intro a
      have h0 : (i 0 : Nat) < 24576 := (i 0).isLt
      have h1 : (i 1 : Nat) < 3072 := (i 1).isLt
      match a with
      | ⟨0, _⟩ =>
        show win0_6.index (pt (i 0)) 0 * 512 ≤ (i 0 : Nat) ∧ (i 0 : Nat) < win0_6.index (pt (i 0)) 0 * 512 + 512
        rw [(ix_6 _).1]; show ((i 0 : Nat) / 512 + 1 - 1) * 512 ≤ (i 0 : Nat) ∧ (i 0 : Nat) < ((i 0 : Nat) / 512 + 1 - 1) * 512 + 512
        omega
      | ⟨1, _⟩ =>
        show win0_6.index (pt (i 0)) 1 * 3072 ≤ (i 1 : Nat) ∧ (i 1 : Nat) < win0_6.index (pt (i 0)) 1 * 3072 + 3072
        rw [(ix_6 _).2]; omega⟩

/-! The operand arrays that the host reshapes. -/

theorem V_v0 (c : Dev nD) : V m c main_v0 = shapeCast S24576x4096 (m ((c : Thread nD τ).loc main_arg0)) shapeCasts_S8x3072x4096_S24576x4096 := by
  unfold V hostOps0; after_results <;> rfl
theorem V_v1 (c : Dev nD) : V m c main_v1 = shapeCast S24576x1 (m ((c : Thread nD τ).loc main_arg1)) shapeCasts_S8x3072x1_S24576x1 := by
  unfold V hostOps0; after_results <;> rfl
theorem V_v2 (c : Dev nD) : V m c main_v2 = shapeCast S1x3072 (m ((c : Thread nD τ).loc main_arg3)) shapeCasts_S3072_S1x3072 := by
  unfold V hostOps0; after_results <;> rfl
theorem V_v3 (c : Dev nD) : V m c main_v3 = shapeCast S1x3072 (m ((c : Thread nD τ).loc main_arg4)) shapeCasts_S3072_S1x3072 := by
  unfold V hostOps0; after_results <;> rfl

end Cert.KernelIdeal.Value
-- ==== Proof.Reference.lean ====
module
public import proofs.«01_k».proof.Proof.Array
public import proofs.«01_k».proof.Proof.Gen.ReferenceIdeal.Value
public import Idealize.ShloMosaic.Lib.Pointwise

@[expose] public section
set_option maxRecDepth 16384
noncomputable section
open Idealize.ShloMosaic Cert.Exponent

/-! The reference's two result arrays. -/

namespace Cert.ReferenceIdeal.Value
open Cert.ReferenceIdeal Cert.ReferenceIdeal.Gen Idealize.ShloMosaic.TcCoe
open Cert.KernelIdeal.Value (linear scaleRow codeRow clip)

/-! ### The constants -/

theorem c_127 : Ideal.ofBits FTy.f32 0x42FE0000#32 = ((127 : ℝ) : EReal) := by
  show Ideal.ieee 8 23 (0x42FE0000#32) = _
  simp [Ideal.ieee, -EReal.coe_mul]; norm_num
theorem c_neg126 : Ideal.ofBits FTy.f32 0xC2FC0000#32 = ((-126 : ℝ) : EReal) := by
  show Ideal.ieee 8 23 (0xC2FC0000#32) = _
  simp [Ideal.ieee, -EReal.coe_mul]; norm_num
theorem c_128 : Ideal.ofBits FTy.f32 0x43000000#32 = ((128 : ℝ) : EReal) := by
  show pw 134 = _
  rw [pw_real (by norm_num) (by norm_num)]; norm_num
theorem c_1 : Ideal.ofBits FTy.f32 0x3F800000#32 = 1 := pw_127
theorem c_inf : Ideal.ofBits FTy.f32 0x7F800000#32 = ⊤ := pw_top
theorem c_0 : Ideal.ofBits FTy.f32 0x00000000#32 = 0 := pw_zero
theorem c_min : Ideal.ofBits FTy.f32 0x00800000#32 = pw 1 := rfl
theorem c_ln2 : (Named.named κ "ln2" 0x3F317218#32 : Ideal .f32) = ((Real.log 2 : ℝ) : EReal) :=
  IdealRules.named_const.ideal_named_scalar _ _ _ _ rfl

/-! ### The body's steps, one element at a time -/

/-- The exponents found from the rows' largest magnitudes over 448, before the test for zero. -/
def expoV (v : FVec Ideal S24576x1 .f32) : FVec Ideal S24576x1 .f32 :=
  select (ori (cmpf .olt v (broadcast S24576x1 (Scalar.ofBits .f32 0x00800000#32))) (cmpf .oeq v (broadcast S24576x1 (Scalar.ofBits .f32 0x7F800000#32))))
    (broadcast S24576x1 (Scalar.ofBits .f32 0x00000000#32))
    (minimumf (addf (floor (divf (log v) (broadcast S24576x1 (Named.named κ "ln2" 0x3F317218#32)))) (broadcast S24576x1 (Scalar.ofBits .f32 0x3F800000#32)))
      (broadcast S24576x1 (Scalar.ofBits .f32 0x43000000#32)))

theorem expoV_step (v : FVec Ideal S24576x1 .f32) (j : S24576x1.Idx) :
    expoV v j = Scalar.select
        (IntOp.ori (BitVec.ofBool (decide (v j < Ideal.ofBits FTy.f32 0x00800000#32)))
          (BitVec.ofBool (decide (v j = Ideal.ofBits FTy.f32 0x7F800000#32))))
        (0 : EReal)
        (min (Ideal.liftRound Int.floor
            (Ideal.div (Ideal.log (v j)) (Named.named κ "ln2" 0x3F317218#32 : Idealize.ShloMosaic.Ideal .f32)) + 1)
          (Ideal.ofBits FTy.f32 0x43000000#32)) := by
  pointwise [expoV]

theorem select_or (A B : Prop) [Decidable A] [Decidable B] (y z : EReal) :
    Scalar.select (IntOp.ori (BitVec.ofBool (decide A)) (BitVec.ofBool (decide B))) y z = if A ∨ B then y else z := by
  by_cases hA : A <;> by_cases hB : B <;> simp [hA, hB, Scalar.select, IntOp.ori]

theorem expoV_apply (v : FVec Ideal S24576x1 .f32) (j : S24576x1.Idx) : expoV v j = expo (v j) := by
  rw [expoV_step, select_or, c_inf, c_128, c_ln2]
  rfl

/-- Zero where the row's largest magnitude is zero. -/
def zeroV (a e : FVec Ideal S24576x1 .f32) : FVec Ideal S24576x1 .f32 :=
  select (cmpf .oeq a (broadcast S24576x1 (Scalar.ofBits .f32 0x00000000#32))) (broadcast S24576x1 (Scalar.ofBits .f32 0x00000000#32)) e

theorem zeroV_apply (a e : FVec Ideal S24576x1 .f32) (j : S24576x1.Idx) : zeroV a e j = if a j = 0 then 0 else e j := by
  pointwise [zeroV]

/-- Powers of two. -/
def pow2V (e : FVec Ideal S24576x1 .f32) : FVec Ideal S24576x1 .f32 :=
  select (cmpf .ogt e (broadcast S24576x1 (Scalar.ofBits .f32 0x42FE0000#32))) (broadcast S24576x1 (Scalar.ofBits .f32 0x7F800000#32))
    (select (cmpf .olt e (broadcast S24576x1 (Scalar.ofBits .f32 0xC2FC0000#32))) (broadcast S24576x1 (Scalar.ofBits .f32 0x00000000#32)) (exp2 e))

theorem pow2V_step (e : FVec Ideal S24576x1 .f32) (j : S24576x1.Idx) :
    pow2V e j = if Ideal.ofBits FTy.f32 0x42FE0000#32 < e j then Ideal.ofBits FTy.f32 0x7F800000#32
      else if e j < Ideal.ofBits FTy.f32 0xC2FC0000#32 then 0 else Ideal.exp2 (e j) := by
  pointwise [pow2V]
  rfl

theorem pow2V_apply (e : FVec Ideal S24576x1 .f32) (j : S24576x1.Idx) : pow2V e j = pow2 (e j) := by
  rw [pow2V_step]
  simp only [c_127, c_neg126, c_inf]
  rfl

theorem negV_apply (e : FVec Ideal S24576x1 .f32) (j : S24576x1.Idx) :
    subf (broadcast S24576x1 (Scalar.ofBits .f32 0x00000000#32)) e j = 0 - e j := by
  pointwise []

/-- The codes: clipped products. -/
def codesV (y : FVec Ideal S24576x3072 .f32) (p : FVec Ideal S24576x1 .f32) : FVec Ideal S24576x3072 .fp8e4m3 :=
  truncf .fp8e4m3 (minimumf (broadcast S24576x3072 (Scalar.ofBits .f32 0x43E00000#32)) (maximumf
    (broadcast S24576x3072 (Scalar.ofBits .f32 0xC3E00000#32)) (mulf y (broadcastTo S24576x3072 p broadcasts_S24576x1_S24576x3072)))) bitsLt_fp8e4m3_f32

theorem codesV_apply (y : FVec Ideal S24576x3072 .f32) (p : FVec Ideal S24576x1 .f32) (j : S24576x3072.Idx) :
    codesV y p j = clip (y j * p (ix2 (j 0) 0)) := by
  pointwise [codesV]
  rfl

/-- Row maxima of magnitudes. -/
def maxV (y : FVec Ideal S24576x3072 .f32) : FVec Ideal S24576x1 .f32 :=
  shapeCast S24576x1 (multiReduction .maximumf [1] S24576 (absf y) 0xFF800000#32 reduces_S24576x3072_S24576 (.inl rfl) rfl) shapeCasts_S24576_S24576x1

theorem maxV_apply (y : FVec Ideal S24576x3072 .f32) (j : S24576x1.Idx) :
    maxV y j = rowMax (fun n => mag (y (ix2 (j 0) n))) := by
  pointwise [maxV]
  rfl

/-- The exponents of the rows of `y`. -/
def rowExpo (y : FVec Ideal S24576x3072 .f32) : FVec Ideal S24576x1 .f32 :=
  zeroV (maxV y) (expoV (mulf (maxV y) (broadcast S24576x1 (Scalar.ofBits .f32 0x3B124925#32))))

theorem mulV_apply (a : FVec Ideal S24576x1 .f32) (j : S24576x1.Idx) :
    mulf a (broadcast S24576x1 (Scalar.ofBits .f32 0x3B124925#32)) j = a j * c448 := by
  pointwise []
  rfl

theorem expo_zero : expo 0 = 0 := if_pos (Or.inl (by rw [← field_eq_zero le_rfl, field_zero]))

theorem rowExpo_apply (y : FVec Ideal S24576x3072 .f32) (j : S24576x1.Idx) :
    rowExpo y j = expo (rowMax (fun n => mag (y (ix2 (j 0) n))) * c448) := by
  unfold rowExpo
  rw [zeroV_apply, expoV_apply, mulV_apply, maxV_apply]
  split_ifs with h
  · rw [h, zero_mul, expo_zero]
  · rfl

theorem row_nonneg (f : Fin 3072 → EReal) : 0 ≤ rowMax (fun n => mag (f n)) * c448 :=
  mul_c448_nonneg (rowMax_nonneg 0 (mag_nonneg _))

/-- The scales of the rows of `y`. -/
theorem scales_apply (y : FVec Ideal S24576x3072 .f32) (j : S24576x1.Idx) :
    pow2V (rowExpo y) j = scaleRow (fun n => y (ix2 (j 0) n)) := by
  rw [pow2V_apply, rowExpo_apply]
  exact pow2_expo (row_nonneg _)

/-- The codes of `y`. -/
theorem codes_apply (y : FVec Ideal S24576x3072 .f32) (j : S24576x3072.Idx) :
    codesV y (pow2V (subf (broadcast S24576x1 (Scalar.ofBits .f32 0x00000000#32)) (rowExpo y))) j
      = codeRow (fun n => y (ix2 (j 0) n)) (j 1) := by
  rw [codesV_apply, pow2V_apply, negV_apply, rowExpo_apply]
  have h : y j = y (ix2 (j 0) (j 1)) := congrArg y (Shape.idx_ext₂ rfl rfl)
  rw [h]
  exact congrArg (fun v => clip (y (ix2 (j 0) (j 1)) * v)) (pow2_neg_expo (row_nonneg fun n => y (ix2 (j 0) n)))

/-! ### The body's payloads -/

section
variable (x : Vec Ideal S24576x4096 .fp8e4m3) (w : Vec Ideal S3072x4096 .fp8e4m3) (xs : Vec Ideal S24576x1 .f32)
  (ws b : Vec Ideal S1x3072 .f32)

theorem pay4_apply (j : S24576x3072.Idx) :
    k0_pay4 (F := Ideal) x w xs ws b j = linear x xs w ws b (j 0) (j 1) := by
  pointwise [k0_pay4]
  rfl

theorem pay5_eq : k0_pay5 (F := Ideal) x w xs ws b = maxV (k0_pay4 x w xs ws b) := rfl

theorem pay6_eq : k0_pay6 (F := Ideal) x w xs ws b
    = expoV (mulf (k0_pay5 x w xs ws b) (broadcast S24576x1 (Scalar.ofBits .f32 0x3B124925#32))) := rfl

theorem pay1_eq (e : FVec Ideal S24576x1 .f32) :
    k0_pay1 e (k0_pay7 (F := Ideal) x w xs ws b) k0_pay8 = zeroV (k0_pay5 x w xs ws b) e := rfl

theorem expo_eq : k0_pay1 (k0_pay6 (F := Ideal) x w xs ws b) (k0_pay7 (F := Ideal) x w xs ws b) k0_pay8
    = rowExpo (k0_pay4 x w xs ws b) := by
  rw [pay1_eq, pay6_eq, pay5_eq]
  rfl

theorem pay2_eq (e : FVec Ideal S24576x1 .f32) (z : IVec S24576x1 1) (o : FVec Ideal S24576x1 .f32) :
    k0_pay2 e z o = pow2V (k0_pay1 e z o) := rfl

theorem pay3_eq (y : FVec Ideal S24576x3072 .f32) (e : FVec Ideal S24576x1 .f32) (z : IVec S24576x1 1) (o : FVec Ideal S24576x1 .f32) :
    k0_pay3 y e z o = codesV y (pow2V (subf (broadcast S24576x1 (Scalar.ofBits .f32 0x00000000#32)) (k0_pay1 e z o))) := rfl

theorem lin_row (r : Fin 24576) : (fun n => k0_pay4 (F := Ideal) x w xs ws b (ix2 r n)) = linear x xs w ws b r :=
  funext fun n => pay4_apply x w xs ws b (ix2 r n)

theorem hz : (![0, 0] : Fin 2 → Nat) = fun _ => 0 := funext fun a => by fin_cases a <;> rfl

/-- What the body leaves in the scales' block. -/
theorem out5_eq (j : S24576x1.Idx) : out0_5 (F := Ideal) x xs w ws b j = scaleRow (linear x xs w ws b (j 0)) := by
  unfold out0_5 k0_pay11 k0_pay10 k0_pay9
  rw [View.canon_unit_zero hz]
  simp only [View.ld_unit_zero (S := S24576x4096) hz, View.ld_unit_zero (S := S3072x4096) hz, View.ld_unit_zero (S := S24576x1) hz,
    View.ld_unit_zero (S := S1x3072) hz]
  rw [pay2_eq, expo_eq, scales_apply]
  exact congrArg scaleRow (lin_row x w xs ws b _)

/-- What the body leaves in the codes' block. -/
theorem out6_eq (j : S24576x3072.Idx) : out0_6 (F := Ideal) x xs w ws b j = codeRow (linear x xs w ws b (j 0)) (j 1) := by
  unfold out0_6 k0_pay11 k0_pay10 k0_pay9
  rw [View.canon_unit_zero hz]
  simp only [View.ld_unit_zero (S := S24576x4096) hz, View.ld_unit_zero (S := S3072x4096) hz, View.ld_unit_zero (S := S24576x1) hz,
    View.ld_unit_zero (S := S1x3072) hz]
  rw [pay3_eq, expo_eq, codes_apply]
  exact congrArg (fun f => codeRow f (j 1)) (lin_row x w xs ws b _)
end

/-! ### The arrays -/

section
variable (m : (ℓ : Loc nD τ sig) → Buf (Elt Ideal) ℓ)

/-- The linear layer of the operand arrays. -/
def lin (c : Dev nD) (r : Fin 24576) (n : Fin 3072) : EReal :=
  linear (V m c main_v0) (V m c main_v1) (V m c main_arg2) (V m c main_v2) (V m c main_v3) r n

/-- Every row's scale. -/
def scales (c : Dev nD) : Buf (Elt Ideal) ((c : Thread nD τ).loc main_v4_0) :=
  fun i : S24576x1.Idx => scaleRow (lin m c (i 0))

/-- Every element's code. -/
def codes (c : Dev nD) : Buf (Elt Ideal) ((c : Thread nD τ).loc main_v4_1) :=
  fun i : S24576x3072.Idx => codeRow (lin m c (i 0)) (i 1)

/-- The one grid point. -/
def origin : Fin cfg0.N := ⟨0, by decide⟩

theorem ix_0 : ∀ t : Fin grid0.N, win0_0.index t 0 = 0 ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = 0 ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = 0 ∧ win0_6.index t 1 = 0 := by decide +kernel
theorem fl_5 : ∀ t : Fin grid0.N, win0_5.flush t = true := by decide +kernel
theorem fl_6 : ∀ t : Fin grid0.N, win0_6.flush t = true := by decide +kernel

theorem iblk_0 (c : Dev nD) (t : Fin cfg0.N) :
    (iblk m c 0 t : Vec Ideal S24576x4096 .fp8e4m3) = (V m c main_v0 : Vec Ideal S24576x4096 .fp8e4m3) := by
  funext j
  unfold iblk
  rw [View.read_apply]
  show V m c main_v0 _ = V m c main_v0 _
  congr 1
  apply Shape.idx_ext₂
  · show win0_0.index t 0 * 24576 + 1 * (j 0).val = (j 0).val
    rw [(ix_0 t).1]; omega
  · show win0_0.index t 1 * 4096 + 1 * (j 1).val = (j 1).val
    rw [(ix_0 t).2]; omega

theorem iblk_1 (c : Dev nD) (t : Fin cfg0.N) :
    (iblk m c 1 t : Vec Ideal S24576x1 .f32) = (V m c main_v1 : Vec Ideal S24576x1 .f32) := by
  funext j
  unfold iblk
  rw [View.read_apply]
  show V m c main_v1 _ = V m c main_v1 _
  congr 1
  apply Shape.idx_ext₂
  · show win0_1.index t 0 * 24576 + 1 * (j 0).val = (j 0).val
    rw [(ix_1 t).1]; omega
  · show win0_1.index t 1 * 1 + 1 * (j 1).val = (j 1).val
    rw [(ix_1 t).2]; omega

theorem iblk_2 (c : Dev nD) (t : Fin cfg0.N) :
    (iblk m c 2 t : Vec Ideal S3072x4096 .fp8e4m3) = (V m c main_arg2 : Vec Ideal S3072x4096 .fp8e4m3) := by
  funext j
  unfold iblk
  rw [View.read_apply]
  show V m c main_arg2 _ = V m c main_arg2 _
  congr 1
  apply Shape.idx_ext₂
  · show win0_2.index t 0 * 3072 + 1 * (j 0).val = (j 0).val
    rw [(ix_2 t).1]; omega
  · show win0_2.index t 1 * 4096 + 1 * (j 1).val = (j 1).val
    rw [(ix_2 t).2]; omega

theorem iblk_3 (c : Dev nD) (t : Fin cfg0.N) :
    (iblk m c 3 t : Vec Ideal S1x3072 .f32) = (V m c main_v2 : Vec Ideal S1x3072 .f32) := by
  funext j
  unfold iblk
  rw [View.read_apply]
  show V m c main_v2 _ = V m c main_v2 _
  congr 1
  apply Shape.idx_ext₂
  · show win0_3.index t 0 * 1 + 1 * (j 0).val = (j 0).val
    rw [(ix_3 t).1]; omega
  · show win0_3.index t 1 * 3072 + 1 * (j 1).val = (j 1).val
    rw [(ix_3 t).2]; omega

theorem iblk_4 (c : Dev nD) (t : Fin cfg0.N) :
    (iblk m c 4 t : Vec Ideal S1x3072 .f32) = (V m c main_v3 : Vec Ideal S1x3072 .f32) := by
  funext j
  unfold iblk
  rw [View.read_apply]
  show V m c main_v3 _ = V m c main_v3 _
  congr 1
  apply Shape.idx_ext₂
  · show win0_4.index t 0 * 1 + 1 * (j 0).val = (j 0).val
    rw [(ix_4 t).1]; omega
  · show win0_4.index t 1 * 3072 + 1 * (j 1).val = (j 1).val
    rw [(ix_4 t).2]; omega

theorem flushed_5 (c : Dev nD) (t : Fin cfg0.N) :
    (dats m 0 c).flushed 5 t = ((cfg0.win 5).blk t).view.read (Elt Ideal) (scales m c) := by
  rw [flushed5]
  funext j
  rw [View.read_apply]
  show out0_5 (F := Ideal) (iblk m c 0 t) (iblk m c 1 t) (iblk m c 2 t) (iblk m c 3 t) (iblk m c 4 t) j = scales m c _
  have e := congr (congr (congr (congr (congrArg (out0_5 (F := Ideal)) (iblk_0 m c t)) (iblk_1 m c t)) (iblk_2 m c t)) (iblk_3 m c t)) (iblk_4 m c t)
  refine (congrFun e j).trans ((out5_eq _ _ _ _ _ j).trans ?_)
  refine congrArg (scales m c) (?_ : (j : S24576x1.Idx) = _)
  apply Shape.idx_ext₂
  · show (j 0).val = win0_5.index t 0 * 24576 + 1 * (j 0).val
    rw [(ix_5 t).1]; omega
  · show (j 1).val = win0_5.index t 1 * 1 + 1 * (j 1).val
    rw [(ix_5 t).2]; omega

theorem final_5 (c : Dev nD) : (dats m 0 c).arrAt 5 cfg0.N = scales m c :=
  (dats m 0 c).arrAt_eq_of_cover 5 (scales m c) (fun t _ => flushed_5 m c t) fun i =>
    ⟨origin, fl_5 _, by
      show i ∈ ((View.whole main_v4_0).slice (win0_5.rect origin)).set
      rw [View.set_slice_whole, Rect.mem_set_unit]
      intro a
      have h0 : (i 0 : Nat) < 24576 := (i 0).isLt
      have h1 : (i 1 : Nat) < 1 := (i 1).isLt
      match a with
      | ⟨0, _⟩ =>
        show win0_5.index origin 0 * 24576 ≤ (i 0 : Nat) ∧ (i 0 : Nat) < win0_5.index origin 0 * 24576 + 24576
        rw [(ix_5 _).1]; omega
      | ⟨1, _⟩ =>
        show win0_5.index origin 1 * 1 ≤ (i 1 : Nat) ∧ (i 1 : Nat) < win0_5.index origin 1 * 1 + 1
        rw [(ix_5 _).2]; omega⟩

theorem flushed_6 (c : Dev nD) (t : Fin cfg0.N) :
    (dats m 0 c).flushed 6 t = ((cfg0.win 6).blk t).view.read (Elt Ideal) (codes m c) := by
  rw [flushed6]
  funext j
  rw [View.read_apply]
  show out0_6 (F := Ideal) (iblk m c 0 t) (iblk m c 1 t) (iblk m c 2 t) (iblk m c 3 t) (iblk m c 4 t) j = codes m c _
  have e := congr (congr (congr (congr (congrArg (out0_6 (F := Ideal)) (iblk_0 m c t)) (iblk_1 m c t)) (iblk_2 m c t)) (iblk_3 m c t)) (iblk_4 m c t)
  refine (congrFun e j).trans ((out6_eq _ _ _ _ _ j).trans ?_)
  refine congrArg (codes m c) (?_ : (j : S24576x3072.Idx) = _)
  apply Shape.idx_ext₂
  · show (j 0).val = win0_6.index t 0 * 24576 + 1 * (j 0).val
    rw [(ix_6 t).1]; omega
  · show (j 1).val = win0_6.index t 1 * 3072 + 1 * (j 1).val
    rw [(ix_6 t).2]; omega

theorem final_6 (c : Dev nD) : (dats m 0 c).arrAt 6 cfg0.N = codes m c :=
  (dats m 0 c).arrAt_eq_of_cover 6 (codes m c) (fun t _ => flushed_6 m c t) fun i =>
    ⟨origin, fl_6 _, by
      show i ∈ ((View.whole main_v4_1).slice (win0_6.rect origin)).set
      rw [View.set_slice_whole, Rect.mem_set_unit]
      intro a
      have h0 : (i 0 : Nat) < 24576 := (i 0).isLt
      have h1 : (i 1 : Nat) < 3072 := (i 1).isLt
      match a with
      | ⟨0, _⟩ =>
        show win0_6.index origin 0 * 24576 ≤ (i 0 : Nat) ∧ (i 0 : Nat) < win0_6.index origin 0 * 24576 + 24576
        rw [(ix_6 _).1]; omega
      | ⟨1, _⟩ =>
        show win0_6.index origin 1 * 3072 ≤ (i 1 : Nat) ∧ (i 1 : Nat) < win0_6.index origin 1 * 3072 + 3072
        rw [(ix_6 _).2]; omega⟩

/-! The operand arrays that the host reshapes. -/

theorem V_v0 (c : Dev nD) : V m c main_v0 = shapeCast S24576x4096 (m ((c : Thread nD τ).loc main_arg0)) shapeCasts_S8x3072x4096_S24576x4096 := by
  unfold V hostOps0; after_results <;> rfl
theorem V_v1 (c : Dev nD) : V m c main_v1 = shapeCast S24576x1 (m ((c : Thread nD τ).loc main_arg1)) shapeCasts_S8x3072x1_S24576x1 := by
  unfold V hostOps0; after_results <;> rfl
theorem V_v2 (c : Dev nD) : V m c main_v2 = shapeCast S1x3072 (m ((c : Thread nD τ).loc main_arg3)) shapeCasts_S3072_S1x3072 := by
  unfold V hostOps0; after_results <;> rfl
theorem V_v3 (c : Dev nD) : V m c main_v3 = shapeCast S1x3072 (m ((c : Thread nD τ).loc main_arg4)) shapeCasts_S3072_S1x3072 := by
  unfold V hostOps0; after_results <;> rfl
end

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem Cert.Kernel

/-- From equal arguments the kernel and the reference scale, quantise and pack the same linear layer. -/
theorem lin_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.lin m' c = Cert.KernelIdeal.Value.lin m c := by
  have e0 : Cert.ReferenceIdeal.Gen.V m' c Cert.ReferenceIdeal.main_v0 = Cert.KernelIdeal.Gen.V m c Cert.KernelIdeal.main_v0 :=
    (Cert.ReferenceIdeal.Value.V_v0 m' c).trans ((congrArg (fun a => shapeCast _ a _) h0).trans (Cert.KernelIdeal.Value.V_v0 m c).symm)
  have e1 : Cert.ReferenceIdeal.Gen.V m' c Cert.ReferenceIdeal.main_v1 = Cert.KernelIdeal.Gen.V m c Cert.KernelIdeal.main_v1 :=
    (Cert.ReferenceIdeal.Value.V_v1 m' c).trans ((congrArg (fun a => shapeCast _ a _) h1).trans (Cert.KernelIdeal.Value.V_v1 m c).symm)
  have e2 : Cert.ReferenceIdeal.Gen.V m' c Cert.ReferenceIdeal.main_arg2 = Cert.KernelIdeal.Gen.V m c Cert.KernelIdeal.main_arg2 :=
    (Cert.ReferenceIdeal.Gen.V_main_arg2 m' c).trans (h2.trans (Cert.KernelIdeal.Gen.V_main_arg2 m c).symm)
  have e3 : Cert.ReferenceIdeal.Gen.V m' c Cert.ReferenceIdeal.main_v2 = Cert.KernelIdeal.Gen.V m c Cert.KernelIdeal.main_v2 :=
    (Cert.ReferenceIdeal.Value.V_v2 m' c).trans ((congrArg (fun a => shapeCast _ a _) h3).trans (Cert.KernelIdeal.Value.V_v2 m c).symm)
  have e4 : Cert.ReferenceIdeal.Gen.V m' c Cert.ReferenceIdeal.main_v3 = Cert.KernelIdeal.Gen.V m c Cert.KernelIdeal.main_v3 :=
    (Cert.ReferenceIdeal.Value.V_v3 m' c).trans ((congrArg (fun a => shapeCast _ a _) h4).trans (Cert.KernelIdeal.Value.V_v3 m c).symm)
  have e := congr (congr (congr (congr (congrArg Cert.KernelIdeal.Value.linear e0) e1) e2) e3) e4
  funext r n
  exact congrFun (congrFun e r) n

/-- Equal layers give equal scales. -/
theorem scales_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e : Cert.ReferenceIdeal.Value.lin m' c = Cert.KernelIdeal.Value.lin m c) :
    Cert.ReferenceIdeal.Value.scales m' c = Cert.KernelIdeal.Value.scales m c := by
  unfold Cert.ReferenceIdeal.Value.scales Cert.KernelIdeal.Value.scales
  rw [e]

/-- Equal layers give equal codes. -/
theorem codes_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e : Cert.ReferenceIdeal.Value.lin m' c = Cert.KernelIdeal.Value.lin m c) :
    Cert.ReferenceIdeal.Value.codes m' c = Cert.KernelIdeal.Value.codes m c := by
  unfold Cert.ReferenceIdeal.Value.codes Cert.KernelIdeal.Value.codes
  rw [e]

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  fun m g m' g' _ h => ⟨Cert.KernelIdeal.Value.scales m, Cert.KernelIdeal.Value.codes m,
    (θ_run _ _ _).mono (fun r hr c => by
      obtain ⟨r5, r6, k⟩ := hr c
      exact ⟨r5.trans (Cert.KernelIdeal.Value.final_5 m c), r6.trans (Cert.KernelIdeal.Value.final_6 m c), k⟩)
      (Cert.KernelIdeal.Value.run_blocks m g),
    (θ_run _ _ _).mono (fun r hr c => by
      obtain ⟨r5, r6, k⟩ := hr c
      obtain ⟨h0, h1, h2, h3, h4⟩ := h c
      have e := lin_eq m m' c h0 h1 h2 h3 h4
      exact ⟨(r5.trans (Cert.ReferenceIdeal.Value.final_5 m' c)).trans (scales_eq m m' c e),
        (r6.trans (Cert.ReferenceIdeal.Value.final_6 m' c)).trans (codes_eq m m' c e), k⟩)
      (Cert.ReferenceIdeal.Value.run_blocks m' g')⟩⟩

end Cert.Proof

end
